-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S128x2x128 Cert.KernelIdeal.S128x1x128
  ∧ IdealRules.bf16_pair.PackStatement Cert.KernelIdeal.S32x128
  ∧ IdealRules.bf16_pair.Statement Cert.KernelIdeal.S32x2x128 Cert.KernelIdeal.S32x1x128
  ∧ IdealRules.bf16_pair.Statement Cert.KernelIdeal.S1x2x128 Cert.KernelIdeal.S1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x8192 : Shape := ⟨3, ![2, 4096, 8192]⟩
abbrev S2x4096x1024 : Shape := ⟨3, ![2, 4096, 1024]⟩
abbrev S4 : Shape := ⟨1, ![4]⟩
abbrev S8192x13312 : Shape := ⟨2, ![8192, 13312]⟩
abbrev S1024x13312 : Shape := ⟨2, ![1024, 13312]⟩
abbrev S1 : Shape := ⟨1, ![1]⟩
abbrev S8192x8192 : Shape := ⟨2, ![8192, 8192]⟩
abbrev S8192x1024 : Shape := ⟨2, ![8192, 1024]⟩
abbrev S1024x1024 : Shape := ⟨2, ![1024, 1024]⟩
abbrev S1024x128 : Shape := ⟨2, ![1024, 128]⟩
abbrev S128x1024 : Shape := ⟨2, ![128, 1024]⟩
abbrev S2x1024x1024 : Shape := ⟨3, ![2, 1024, 1024]⟩
abbrev S128x128 : Shape := ⟨2, ![128, 128]⟩
abbrev S32x128 : Shape := ⟨2, ![32, 128]⟩
abbrev S32x128x1 : Shape := ⟨3, ![32, 128, 1]⟩
abbrev S8x128 : Shape := ⟨2, ![8, 128]⟩
abbrev S1x32x128 : Shape := ⟨3, ![1, 32, 128]⟩
abbrev S1x128 : Shape := ⟨2, ![1, 128]⟩
abbrev S16x128 : Shape := ⟨2, ![16, 128]⟩
abbrev S1x1024x1024 : Shape := ⟨3, ![1, 1024, 1024]⟩

abbrev nBuf : Space → Nat
  | .hbm => 9
  | .vmem => 14
  | .smem => 2
  | _ => 0

abbrev bufTy : (tb : Table) → Fin (tcTables nBuf tb) → BufTy
  | .hbm, ⟨0, _⟩ => ⟨S2x4096x8192, .i8⟩
  | .hbm, ⟨1, _⟩ => ⟨S2x4096x1024, .fp8e4m3⟩
  | .hbm, ⟨2, _⟩ => ⟨S4, .f32⟩
  | .hbm, ⟨3, _⟩ => ⟨S8192x13312, .i8⟩
  | .hbm, ⟨4, _⟩ => ⟨S1024x13312, .fp8e4m3⟩
  | .hbm, ⟨5, _⟩ => ⟨S1, .f32⟩
  | .hbm, ⟨6, _⟩ => ⟨S8192x8192, .i8⟩
  | .hbm, ⟨7, _⟩ => ⟨S8192x1024, .fp8e4m3⟩
  | .hbm, ⟨8, _⟩ => ⟨S8192x13312, .bf16⟩
  | .local _ .vmem, ⟨0, _⟩ => ⟨S1024x1024, .i8⟩
  | .local _ .vmem, ⟨1, _⟩ => ⟨S1024x1024, .i8⟩
  | .local _ .vmem, ⟨2, _⟩ => ⟨S1024x128, .fp8e4m3⟩
  | .local _ .vmem, ⟨3, _⟩ => ⟨S1024x128, .fp8e4m3⟩
  | .local _ .vmem, ⟨4, _⟩ => ⟨S1024x1024, .i8⟩
  | .local _ .vmem, ⟨5, _⟩ => ⟨S1024x1024, .i8⟩
  | .local _ .vmem, ⟨6, _⟩ => ⟨S128x1024, .fp8e4m3⟩
  | .local _ .vmem, ⟨7, _⟩ => ⟨S128x1024, .fp8e4m3⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S2x1024x1024, .bf16⟩
  | .local _ .vmem, ⟨12, _⟩ => ⟨S2x1024x1024, .bf16⟩
  | .local _ .vmem, ⟨13, _⟩ => ⟨S128x128, .i32⟩
  | .local _ .smem, ⟨0, _⟩ => ⟨S4, .f32⟩
  | .local _ .smem, ⟨1, _⟩ => ⟨S1, .f32⟩
  | _, _ => ⟨S2x4096x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨3, ![8, 13, 8], ![false, false, false]⟩

@[reducible] def k0_t1_loop : Scf.Loop 32 :=
  let c0_i32_5 : BitVec 32 := 0#32
  let c32_i32 : BitVec 32 := 32#32
  let v13 : BitVec 32 := Scalar.addi c0_i32_5 c32_i32
  let c1_i32_6 : BitVec 32 := 1#32
  ⟨c0_i32_5, v13, c1_i32_6⟩
def k0_off1 (k0_t1 : Fin k0_t1_loop.trips) : Fin 2 → Nat :=
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v39 : Index := Scalar.indexCast v38
  let c0_32 : Index := 0#32
  ![v39.toNat, 0]
def k0_off2 (k0_t1 : Fin k0_t1_loop.trips) : Fin 2 → Nat :=
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v42 : Index := Scalar.indexCast v38
  let c0_33 : Index := 0#32
  ![v42.toNat, 0]
def k0_off3 (k0_t1 : Fin k0_t1_loop.trips) : Fin 3 → Nat :=
  let c0_48 : Index := 0#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v107 : Index := Scalar.indexCast v38
  let c0_49 : Index := 0#32
  ![0, v107.toNat, 0]
def k0_off4 (k0_t1 : Fin k0_t1_loop.trips) : Fin 3 → Nat :=
  let c1_50 : Index := 1#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v111 : Index := Scalar.indexCast v38
  let c0_51 : Index := 0#32
  ![1, v111.toNat, 0]
def k0_off5 (k0_t1 : Fin k0_t1_loop.trips) : Fin 2 → Nat :=
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v115 : Index := Scalar.indexCast v38
  let c128 : Index := 128#32
  ![v115.toNat, 128]
def k0_off6 (k0_t1 : Fin k0_t1_loop.trips) : Fin 3 → Nat :=
  let c0_69 : Index := 0#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v180 : Index := Scalar.indexCast v38
  let c128_70 : Index := 128#32
  ![0, v180.toNat, 128]
def k0_off7 (k0_t1 : Fin k0_t1_loop.trips) : Fin 3 → Nat :=
  let c1_71 : Index := 1#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v184 : Index := Scalar.indexCast v38
  let c128_72 : Index := 128#32
  ![1, v184.toNat, 128]
def k0_off8 (k0_t1 : Fin k0_t1_loop.trips) : Fin 2 → Nat :=
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v188 : Index := Scalar.indexCast v38
  let c256 : Index := 256#32
  ![v188.toNat, 256]
def k0_off9 (k0_t1 : Fin k0_t1_loop.trips) : Fin 3 → Nat :=
  let c0_91 : Index := 0#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v253 : Index := Scalar.indexCast v38
  let c256_92 : Index := 256#32
  ![0, v253.toNat, 256]
def k0_off10 (k0_t1 : Fin k0_t1_loop.trips) : Fin 3 → Nat :=
  let c1_93 : Index := 1#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v257 : Index := Scalar.indexCast v38
  let c256_94 : Index := 256#32
  ![1, v257.toNat, 256]
def k0_off11 (k0_t1 : Fin k0_t1_loop.trips) : Fin 2 → Nat :=
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v261 : Index := Scalar.indexCast v38
  let c384 : Index := 384#32
  ![v261.toNat, 384]
def k0_off12 (k0_t1 : Fin k0_t1_loop.trips) : Fin 3 → Nat :=
  let c0_112 : Index := 0#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v326 : Index := Scalar.indexCast v38
  let c384_113 : Index := 384#32
  ![0, v326.toNat, 384]
def k0_off13 (k0_t1 : Fin k0_t1_loop.trips) : Fin 3 → Nat :=
  let c1_114 : Index := 1#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v330 : Index := Scalar.indexCast v38
  let c384_115 : Index := 384#32
  ![1, v330.toNat, 384]
def k0_off14 (k0_t1 : Fin k0_t1_loop.trips) : Fin 2 → Nat :=
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v334 : Index := Scalar.indexCast v38
  let c512 : Index := 512#32
  ![v334.toNat, 512]
def k0_off15 (k0_t1 : Fin k0_t1_loop.trips) : Fin 3 → Nat :=
  let c0_133 : Index := 0#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v399 : Index := Scalar.indexCast v38
  let c512_134 : Index := 512#32
  ![0, v399.toNat, 512]
def k0_off16 (k0_t1 : Fin k0_t1_loop.trips) : Fin 3 → Nat :=
  let c1_135 : Index := 1#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v403 : Index := Scalar.indexCast v38
  let c512_136 : Index := 512#32
  ![1, v403.toNat, 512]
def k0_off17 (k0_t1 : Fin k0_t1_loop.trips) : Fin 2 → Nat :=
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v407 : Index := Scalar.indexCast v38
  let c640 : Index := 640#32
  ![v407.toNat, 640]
def k0_off18 (k0_t1 : Fin k0_t1_loop.trips) : Fin 3 → Nat :=
  let c0_154 : Index := 0#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v472 : Index := Scalar.indexCast v38
  let c640_155 : Index := 640#32
  ![0, v472.toNat, 640]
def k0_off19 (k0_t1 : Fin k0_t1_loop.trips) : Fin 3 → Nat :=
  let c1_156 : Index := 1#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v476 : Index := Scalar.indexCast v38
  let c640_157 : Index := 640#32
  ![1, v476.toNat, 640]
def k0_off20 (k0_t1 : Fin k0_t1_loop.trips) : Fin 2 → Nat :=
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v480 : Index := Scalar.indexCast v38
  let c768 : Index := 768#32
  ![v480.toNat, 768]
def k0_off21 (k0_t1 : Fin k0_t1_loop.trips) : Fin 3 → Nat :=
  let c0_175 : Index := 0#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v545 : Index := Scalar.indexCast v38
  let c768_176 : Index := 768#32
  ![0, v545.toNat, 768]
def k0_off22 (k0_t1 : Fin k0_t1_loop.trips) : Fin 3 → Nat :=
  let c1_177 : Index := 1#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v549 : Index := Scalar.indexCast v38
  let c768_178 : Index := 768#32
  ![1, v549.toNat, 768]
def k0_off23 (k0_t1 : Fin k0_t1_loop.trips) : Fin 2 → Nat :=
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v553 : Index := Scalar.indexCast v38
  let c896 : Index := 896#32
  ![v553.toNat, 896]
def k0_off24 (k0_t1 : Fin k0_t1_loop.trips) : Fin 3 → Nat :=
  let c0_196 : Index := 0#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v618 : Index := Scalar.indexCast v38
  let c896_197 : Index := 896#32
  ![0, v618.toNat, 896]
def k0_off25 (k0_t1 : Fin k0_t1_loop.trips) : Fin 3 → Nat :=
  let c1_198 : Index := 1#32
  let c0_i32_5 : BitVec 32 := 0#32
  let c1_i32_6 : BitVec 32 := 1#32
  let arg14 : BitVec 32 := Scf.iv c0_i32_5 c1_i32_6 k0_t1
  let c32_i32_31 : BitVec 32 := 32#32
  let v38 : BitVec 32 := Scalar.muli arg14 c32_i32_31
  let v622 : Index := Scalar.indexCast v38
  let c896_199 : Index := 896#32
  ![1, v622.toNat, 896]
@[reducible] def k0_t2_loop : Scf.Loop 32 :=
  let c0_i32_8 : BitVec 32 := 0#32
  let c8_i32 : BitVec 32 := 8#32
  let v14 : BitVec 32 := Scalar.addi c0_i32_8 c8_i32
  let c1_i32_9 : BitVec 32 := 1#32
  ⟨c0_i32_8, v14, c1_i32_9⟩
def k0_mult1 (k0_t2 : Fin k0_t2_loop.trips) : BitVec 32 :=
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  v38
def k0_off26 (k0_t2 : Fin k0_t2_loop.trips) : Fin 2 → Nat :=
  let c0_31 : Index := 0#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v40 : Index := Scalar.indexCast v39
  ![0, v40.toNat]
def k0_off27 (k0_t2 : Fin k0_t2_loop.trips) : Fin 2 → Nat :=
  let c32 : Index := 32#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v47 : Index := Scalar.indexCast v39
  ![32, v47.toNat]
def k0_off28 (k0_t2 : Fin k0_t2_loop.trips) : Fin 2 → Nat :=
  let c64 : Index := 64#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v54 : Index := Scalar.indexCast v39
  ![64, v54.toNat]
def k0_off29 (k0_t2 : Fin k0_t2_loop.trips) : Fin 2 → Nat :=
  let c96 : Index := 96#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v61 : Index := Scalar.indexCast v39
  ![96, v61.toNat]
def k0_off30 (k0_t2 : Fin k0_t2_loop.trips) : Fin 2 → Nat :=
  let c0_40 : Index := 0#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v68 : Index := Scalar.indexCast v39
  ![0, v68.toNat]
def k0_off31 (k0_t2 : Fin k0_t2_loop.trips) : Fin 3 → Nat :=
  let c0_52 : Index := 0#32
  let c0_53 : Index := 0#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v109 : Index := Scalar.indexCast v39
  ![0, 0, v109.toNat]
def k0_off32 (k0_t2 : Fin k0_t2_loop.trips) : Fin 3 → Nat :=
  let c1_54 : Index := 1#32
  let c0_55 : Index := 0#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v113 : Index := Scalar.indexCast v39
  ![1, 0, v113.toNat]
def k0_off33 (k0_t2 : Fin k0_t2_loop.trips) : Fin 2 → Nat :=
  let c32_56 : Index := 32#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v117 : Index := Scalar.indexCast v39
  ![32, v117.toNat]
def k0_off34 (k0_t2 : Fin k0_t2_loop.trips) : Fin 3 → Nat :=
  let c0_69 : Index := 0#32
  let c32_70 : Index := 32#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v158 : Index := Scalar.indexCast v39
  ![0, 32, v158.toNat]
def k0_off35 (k0_t2 : Fin k0_t2_loop.trips) : Fin 3 → Nat :=
  let c1_71 : Index := 1#32
  let c32_72 : Index := 32#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v162 : Index := Scalar.indexCast v39
  ![1, 32, v162.toNat]
def k0_off36 (k0_t2 : Fin k0_t2_loop.trips) : Fin 2 → Nat :=
  let c64_73 : Index := 64#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v166 : Index := Scalar.indexCast v39
  ![64, v166.toNat]
def k0_off37 (k0_t2 : Fin k0_t2_loop.trips) : Fin 3 → Nat :=
  let c0_86 : Index := 0#32
  let c64_87 : Index := 64#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v207 : Index := Scalar.indexCast v39
  ![0, 64, v207.toNat]
def k0_off38 (k0_t2 : Fin k0_t2_loop.trips) : Fin 3 → Nat :=
  let c1_88 : Index := 1#32
  let c64_89 : Index := 64#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v211 : Index := Scalar.indexCast v39
  ![1, 64, v211.toNat]
def k0_off39 (k0_t2 : Fin k0_t2_loop.trips) : Fin 2 → Nat :=
  let c96_90 : Index := 96#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v215 : Index := Scalar.indexCast v39
  ![96, v215.toNat]
def k0_off40 (k0_t2 : Fin k0_t2_loop.trips) : Fin 3 → Nat :=
  let c0_103 : Index := 0#32
  let c96_104 : Index := 96#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v256 : Index := Scalar.indexCast v39
  ![0, 96, v256.toNat]
def k0_off41 (k0_t2 : Fin k0_t2_loop.trips) : Fin 3 → Nat :=
  let c1_105 : Index := 1#32
  let c96_106 : Index := 96#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v260 : Index := Scalar.indexCast v39
  ![1, 96, v260.toNat]
def k0_off42 (k0_t2 : Fin k0_t2_loop.trips) : Fin 2 → Nat :=
  let c128 : Index := 128#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v264 : Index := Scalar.indexCast v39
  ![128, v264.toNat]
def k0_off43 (k0_t2 : Fin k0_t2_loop.trips) : Fin 3 → Nat :=
  let c0_119 : Index := 0#32
  let c128_120 : Index := 128#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v305 : Index := Scalar.indexCast v39
  ![0, 128, v305.toNat]
def k0_off44 (k0_t2 : Fin k0_t2_loop.trips) : Fin 3 → Nat :=
  let c1_121 : Index := 1#32
  let c128_122 : Index := 128#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v309 : Index := Scalar.indexCast v39
  ![1, 128, v309.toNat]
def k0_off45 (k0_t2 : Fin k0_t2_loop.trips) : Fin 2 → Nat :=
  let c160 : Index := 160#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v313 : Index := Scalar.indexCast v39
  ![160, v313.toNat]
def k0_off46 (k0_t2 : Fin k0_t2_loop.trips) : Fin 3 → Nat :=
  let c0_135 : Index := 0#32
  let c160_136 : Index := 160#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v354 : Index := Scalar.indexCast v39
  ![0, 160, v354.toNat]
def k0_off47 (k0_t2 : Fin k0_t2_loop.trips) : Fin 3 → Nat :=
  let c1_137 : Index := 1#32
  let c160_138 : Index := 160#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v358 : Index := Scalar.indexCast v39
  ![1, 160, v358.toNat]
def k0_off48 (k0_t2 : Fin k0_t2_loop.trips) : Fin 2 → Nat :=
  let c192 : Index := 192#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v362 : Index := Scalar.indexCast v39
  ![192, v362.toNat]
def k0_off49 (k0_t2 : Fin k0_t2_loop.trips) : Fin 3 → Nat :=
  let c0_151 : Index := 0#32
  let c192_152 : Index := 192#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v403 : Index := Scalar.indexCast v39
  ![0, 192, v403.toNat]
def k0_off50 (k0_t2 : Fin k0_t2_loop.trips) : Fin 3 → Nat :=
  let c1_153 : Index := 1#32
  let c192_154 : Index := 192#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v407 : Index := Scalar.indexCast v39
  ![1, 192, v407.toNat]
def k0_off51 (k0_t2 : Fin k0_t2_loop.trips) : Fin 2 → Nat :=
  let c224 : Index := 224#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v411 : Index := Scalar.indexCast v39
  ![224, v411.toNat]
def k0_off52 (k0_t2 : Fin k0_t2_loop.trips) : Fin 3 → Nat :=
  let c0_167 : Index := 0#32
  let c224_168 : Index := 224#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v452 : Index := Scalar.indexCast v39
  ![0, 224, v452.toNat]
def k0_off53 (k0_t2 : Fin k0_t2_loop.trips) : Fin 3 → Nat :=
  let c1_169 : Index := 1#32
  let c224_170 : Index := 224#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v456 : Index := Scalar.indexCast v39
  ![1, 224, v456.toNat]
def k0_off54 (k0_t2 : Fin k0_t2_loop.trips) : Fin 2 → Nat :=
  let c256 : Index := 256#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v460 : Index := Scalar.indexCast v39
  ![256, v460.toNat]
def k0_off55 (k0_t2 : Fin k0_t2_loop.trips) : Fin 3 → Nat :=
  let c0_184 : Index := 0#32
  let c256_185 : Index := 256#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v501 : Index := Scalar.indexCast v39
  ![0, 256, v501.toNat]
def k0_off56 (k0_t2 : Fin k0_t2_loop.trips) : Fin 3 → Nat :=
  let c1_186 : Index := 1#32
  let c256_187 : Index := 256#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v505 : Index := Scalar.indexCast v39
  ![1, 256, v505.toNat]
def k0_off57 (k0_t2 : Fin k0_t2_loop.trips) : Fin 2 → Nat :=
  let c288 : Index := 288#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v509 : Index := Scalar.indexCast v39
  ![288, v509.toNat]
def k0_off58 (k0_t2 : Fin k0_t2_loop.trips) : Fin 3 → Nat :=
  let c0_200 : Index := 0#32
  let c288_201 : Index := 288#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v550 : Index := Scalar.indexCast v39
  ![0, 288, v550.toNat]
def k0_off59 (k0_t2 : Fin k0_t2_loop.trips) : Fin 3 → Nat :=
  let c1_202 : Index := 1#32
  let c288_203 : Index := 288#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v554 : Index := Scalar.indexCast v39
  ![1, 288, v554.toNat]
def k0_off60 (k0_t2 : Fin k0_t2_loop.trips) : Fin 2 → Nat :=
  let c320 : Index := 320#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v558 : Index := Scalar.indexCast v39
  ![320, v558.toNat]
def k0_off61 (k0_t2 : Fin k0_t2_loop.trips) : Fin 3 → Nat :=
  let c0_216 : Index := 0#32
  let c320_217 : Index := 320#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v599 : Index := Scalar.indexCast v39
  ![0, 320, v599.toNat]
def k0_off62 (k0_t2 : Fin k0_t2_loop.trips) : Fin 3 → Nat :=
  let c1_218 : Index := 1#32
  let c320_219 : Index := 320#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v603 : Index := Scalar.indexCast v39
  ![1, 320, v603.toNat]
def k0_off63 (k0_t2 : Fin k0_t2_loop.trips) : Fin 2 → Nat :=
  let c352 : Index := 352#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v607 : Index := Scalar.indexCast v39
  ![352, v607.toNat]
def k0_off64 (k0_t2 : Fin k0_t2_loop.trips) : Fin 3 → Nat :=
  let c0_232 : Index := 0#32
  let c352_233 : Index := 352#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v648 : Index := Scalar.indexCast v39
  ![0, 352, v648.toNat]
def k0_off65 (k0_t2 : Fin k0_t2_loop.trips) : Fin 3 → Nat :=
  let c1_234 : Index := 1#32
  let c352_235 : Index := 352#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v652 : Index := Scalar.indexCast v39
  ![1, 352, v652.toNat]
def k0_off66 (k0_t2 : Fin k0_t2_loop.trips) : Fin 2 → Nat :=
  let c384 : Index := 384#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v656 : Index := Scalar.indexCast v39
  ![384, v656.toNat]
def k0_off67 (k0_t2 : Fin k0_t2_loop.trips) : Fin 3 → Nat :=
  let c0_248 : Index := 0#32
  let c384_249 : Index := 384#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v697 : Index := Scalar.indexCast v39
  ![0, 384, v697.toNat]
def k0_off68 (k0_t2 : Fin k0_t2_loop.trips) : Fin 3 → Nat :=
  let c1_250 : Index := 1#32
  let c384_251 : Index := 384#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v701 : Index := Scalar.indexCast v39
  ![1, 384, v701.toNat]
def k0_off69 (k0_t2 : Fin k0_t2_loop.trips) : Fin 2 → Nat :=
  let c416 : Index := 416#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v705 : Index := Scalar.indexCast v39
  ![416, v705.toNat]
def k0_off70 (k0_t2 : Fin k0_t2_loop.trips) : Fin 3 → Nat :=
  let c0_264 : Index := 0#32
  let c416_265 : Index := 416#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v746 : Index := Scalar.indexCast v39
  ![0, 416, v746.toNat]
def k0_off71 (k0_t2 : Fin k0_t2_loop.trips) : Fin 3 → Nat :=
  let c1_266 : Index := 1#32
  let c416_267 : Index := 416#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v750 : Index := Scalar.indexCast v39
  ![1, 416, v750.toNat]
def k0_off72 (k0_t2 : Fin k0_t2_loop.trips) : Fin 2 → Nat :=
  let c448 : Index := 448#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v754 : Index := Scalar.indexCast v39
  ![448, v754.toNat]
def k0_off73 (k0_t2 : Fin k0_t2_loop.trips) : Fin 3 → Nat :=
  let c0_280 : Index := 0#32
  let c448_281 : Index := 448#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v795 : Index := Scalar.indexCast v39
  ![0, 448, v795.toNat]
def k0_off74 (k0_t2 : Fin k0_t2_loop.trips) : Fin 3 → Nat :=
  let c1_282 : Index := 1#32
  let c448_283 : Index := 448#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v799 : Index := Scalar.indexCast v39
  ![1, 448, v799.toNat]
def k0_off75 (k0_t2 : Fin k0_t2_loop.trips) : Fin 2 → Nat :=
  let c480 : Index := 480#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v803 : Index := Scalar.indexCast v39
  ![480, v803.toNat]
def k0_off76 (k0_t2 : Fin k0_t2_loop.trips) : Fin 3 → Nat :=
  let c0_296 : Index := 0#32
  let c480_297 : Index := 480#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v844 : Index := Scalar.indexCast v39
  ![0, 480, v844.toNat]
def k0_off77 (k0_t2 : Fin k0_t2_loop.trips) : Fin 3 → Nat :=
  let c1_298 : Index := 1#32
  let c480_299 : Index := 480#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v848 : Index := Scalar.indexCast v39
  ![1, 480, v848.toNat]
def k0_off78 (k0_t2 : Fin k0_t2_loop.trips) : Fin 2 → Nat :=
  let c512 : Index := 512#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v852 : Index := Scalar.indexCast v39
  ![512, v852.toNat]
def k0_off79 (k0_t2 : Fin k0_t2_loop.trips) : Fin 3 → Nat :=
  let c0_313 : Index := 0#32
  let c512_314 : Index := 512#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v893 : Index := Scalar.indexCast v39
  ![0, 512, v893.toNat]
def k0_off80 (k0_t2 : Fin k0_t2_loop.trips) : Fin 3 → Nat :=
  let c1_315 : Index := 1#32
  let c512_316 : Index := 512#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v897 : Index := Scalar.indexCast v39
  ![1, 512, v897.toNat]
def k0_off81 (k0_t2 : Fin k0_t2_loop.trips) : Fin 2 → Nat :=
  let c544 : Index := 544#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v901 : Index := Scalar.indexCast v39
  ![544, v901.toNat]
def k0_off82 (k0_t2 : Fin k0_t2_loop.trips) : Fin 3 → Nat :=
  let c0_329 : Index := 0#32
  let c544_330 : Index := 544#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v942 : Index := Scalar.indexCast v39
  ![0, 544, v942.toNat]
def k0_off83 (k0_t2 : Fin k0_t2_loop.trips) : Fin 3 → Nat :=
  let c1_331 : Index := 1#32
  let c544_332 : Index := 544#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v946 : Index := Scalar.indexCast v39
  ![1, 544, v946.toNat]
def k0_off84 (k0_t2 : Fin k0_t2_loop.trips) : Fin 2 → Nat :=
  let c576 : Index := 576#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v950 : Index := Scalar.indexCast v39
  ![576, v950.toNat]
def k0_off85 (k0_t2 : Fin k0_t2_loop.trips) : Fin 3 → Nat :=
  let c0_345 : Index := 0#32
  let c576_346 : Index := 576#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v991 : Index := Scalar.indexCast v39
  ![0, 576, v991.toNat]
def k0_off86 (k0_t2 : Fin k0_t2_loop.trips) : Fin 3 → Nat :=
  let c1_347 : Index := 1#32
  let c576_348 : Index := 576#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v995 : Index := Scalar.indexCast v39
  ![1, 576, v995.toNat]
def k0_off87 (k0_t2 : Fin k0_t2_loop.trips) : Fin 2 → Nat :=
  let c608 : Index := 608#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v999 : Index := Scalar.indexCast v39
  ![608, v999.toNat]
def k0_off88 (k0_t2 : Fin k0_t2_loop.trips) : Fin 3 → Nat :=
  let c0_361 : Index := 0#32
  let c608_362 : Index := 608#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1040 : Index := Scalar.indexCast v39
  ![0, 608, v1040.toNat]
def k0_off89 (k0_t2 : Fin k0_t2_loop.trips) : Fin 3 → Nat :=
  let c1_363 : Index := 1#32
  let c608_364 : Index := 608#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1044 : Index := Scalar.indexCast v39
  ![1, 608, v1044.toNat]
def k0_off90 (k0_t2 : Fin k0_t2_loop.trips) : Fin 2 → Nat :=
  let c640 : Index := 640#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1048 : Index := Scalar.indexCast v39
  ![640, v1048.toNat]
def k0_off91 (k0_t2 : Fin k0_t2_loop.trips) : Fin 3 → Nat :=
  let c0_377 : Index := 0#32
  let c640_378 : Index := 640#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1089 : Index := Scalar.indexCast v39
  ![0, 640, v1089.toNat]
def k0_off92 (k0_t2 : Fin k0_t2_loop.trips) : Fin 3 → Nat :=
  let c1_379 : Index := 1#32
  let c640_380 : Index := 640#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1093 : Index := Scalar.indexCast v39
  ![1, 640, v1093.toNat]
def k0_off93 (k0_t2 : Fin k0_t2_loop.trips) : Fin 2 → Nat :=
  let c672 : Index := 672#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1097 : Index := Scalar.indexCast v39
  ![672, v1097.toNat]
def k0_off94 (k0_t2 : Fin k0_t2_loop.trips) : Fin 3 → Nat :=
  let c0_393 : Index := 0#32
  let c672_394 : Index := 672#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1138 : Index := Scalar.indexCast v39
  ![0, 672, v1138.toNat]
def k0_off95 (k0_t2 : Fin k0_t2_loop.trips) : Fin 3 → Nat :=
  let c1_395 : Index := 1#32
  let c672_396 : Index := 672#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1142 : Index := Scalar.indexCast v39
  ![1, 672, v1142.toNat]
def k0_off96 (k0_t2 : Fin k0_t2_loop.trips) : Fin 2 → Nat :=
  let c704 : Index := 704#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1146 : Index := Scalar.indexCast v39
  ![704, v1146.toNat]
def k0_off97 (k0_t2 : Fin k0_t2_loop.trips) : Fin 3 → Nat :=
  let c0_409 : Index := 0#32
  let c704_410 : Index := 704#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1187 : Index := Scalar.indexCast v39
  ![0, 704, v1187.toNat]
def k0_off98 (k0_t2 : Fin k0_t2_loop.trips) : Fin 3 → Nat :=
  let c1_411 : Index := 1#32
  let c704_412 : Index := 704#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1191 : Index := Scalar.indexCast v39
  ![1, 704, v1191.toNat]
def k0_off99 (k0_t2 : Fin k0_t2_loop.trips) : Fin 2 → Nat :=
  let c736 : Index := 736#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1195 : Index := Scalar.indexCast v39
  ![736, v1195.toNat]
def k0_off100 (k0_t2 : Fin k0_t2_loop.trips) : Fin 3 → Nat :=
  let c0_425 : Index := 0#32
  let c736_426 : Index := 736#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1236 : Index := Scalar.indexCast v39
  ![0, 736, v1236.toNat]
def k0_off101 (k0_t2 : Fin k0_t2_loop.trips) : Fin 3 → Nat :=
  let c1_427 : Index := 1#32
  let c736_428 : Index := 736#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1240 : Index := Scalar.indexCast v39
  ![1, 736, v1240.toNat]
def k0_off102 (k0_t2 : Fin k0_t2_loop.trips) : Fin 2 → Nat :=
  let c768 : Index := 768#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1244 : Index := Scalar.indexCast v39
  ![768, v1244.toNat]
def k0_off103 (k0_t2 : Fin k0_t2_loop.trips) : Fin 3 → Nat :=
  let c0_442 : Index := 0#32
  let c768_443 : Index := 768#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1285 : Index := Scalar.indexCast v39
  ![0, 768, v1285.toNat]
def k0_off104 (k0_t2 : Fin k0_t2_loop.trips) : Fin 3 → Nat :=
  let c1_444 : Index := 1#32
  let c768_445 : Index := 768#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1289 : Index := Scalar.indexCast v39
  ![1, 768, v1289.toNat]
def k0_off105 (k0_t2 : Fin k0_t2_loop.trips) : Fin 2 → Nat :=
  let c800 : Index := 800#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1293 : Index := Scalar.indexCast v39
  ![800, v1293.toNat]
def k0_off106 (k0_t2 : Fin k0_t2_loop.trips) : Fin 3 → Nat :=
  let c0_458 : Index := 0#32
  let c800_459 : Index := 800#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1334 : Index := Scalar.indexCast v39
  ![0, 800, v1334.toNat]
def k0_off107 (k0_t2 : Fin k0_t2_loop.trips) : Fin 3 → Nat :=
  let c1_460 : Index := 1#32
  let c800_461 : Index := 800#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1338 : Index := Scalar.indexCast v39
  ![1, 800, v1338.toNat]
def k0_off108 (k0_t2 : Fin k0_t2_loop.trips) : Fin 2 → Nat :=
  let c832 : Index := 832#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1342 : Index := Scalar.indexCast v39
  ![832, v1342.toNat]
def k0_off109 (k0_t2 : Fin k0_t2_loop.trips) : Fin 3 → Nat :=
  let c0_474 : Index := 0#32
  let c832_475 : Index := 832#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1383 : Index := Scalar.indexCast v39
  ![0, 832, v1383.toNat]
def k0_off110 (k0_t2 : Fin k0_t2_loop.trips) : Fin 3 → Nat :=
  let c1_476 : Index := 1#32
  let c832_477 : Index := 832#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1387 : Index := Scalar.indexCast v39
  ![1, 832, v1387.toNat]
def k0_off111 (k0_t2 : Fin k0_t2_loop.trips) : Fin 2 → Nat :=
  let c864 : Index := 864#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1391 : Index := Scalar.indexCast v39
  ![864, v1391.toNat]
def k0_off112 (k0_t2 : Fin k0_t2_loop.trips) : Fin 3 → Nat :=
  let c0_490 : Index := 0#32
  let c864_491 : Index := 864#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1432 : Index := Scalar.indexCast v39
  ![0, 864, v1432.toNat]
def k0_off113 (k0_t2 : Fin k0_t2_loop.trips) : Fin 3 → Nat :=
  let c1_492 : Index := 1#32
  let c864_493 : Index := 864#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1436 : Index := Scalar.indexCast v39
  ![1, 864, v1436.toNat]
def k0_off114 (k0_t2 : Fin k0_t2_loop.trips) : Fin 2 → Nat :=
  let c896 : Index := 896#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1440 : Index := Scalar.indexCast v39
  ![896, v1440.toNat]
def k0_off115 (k0_t2 : Fin k0_t2_loop.trips) : Fin 3 → Nat :=
  let c0_506 : Index := 0#32
  let c896_507 : Index := 896#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1481 : Index := Scalar.indexCast v39
  ![0, 896, v1481.toNat]
def k0_off116 (k0_t2 : Fin k0_t2_loop.trips) : Fin 3 → Nat :=
  let c1_508 : Index := 1#32
  let c896_509 : Index := 896#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1485 : Index := Scalar.indexCast v39
  ![1, 896, v1485.toNat]
def k0_off117 (k0_t2 : Fin k0_t2_loop.trips) : Fin 2 → Nat :=
  let c928 : Index := 928#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1489 : Index := Scalar.indexCast v39
  ![928, v1489.toNat]
def k0_off118 (k0_t2 : Fin k0_t2_loop.trips) : Fin 3 → Nat :=
  let c0_522 : Index := 0#32
  let c928_523 : Index := 928#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1530 : Index := Scalar.indexCast v39
  ![0, 928, v1530.toNat]
def k0_off119 (k0_t2 : Fin k0_t2_loop.trips) : Fin 3 → Nat :=
  let c1_524 : Index := 1#32
  let c928_525 : Index := 928#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1534 : Index := Scalar.indexCast v39
  ![1, 928, v1534.toNat]
def k0_off120 (k0_t2 : Fin k0_t2_loop.trips) : Fin 2 → Nat :=
  let c960 : Index := 960#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1538 : Index := Scalar.indexCast v39
  ![960, v1538.toNat]
def k0_off121 (k0_t2 : Fin k0_t2_loop.trips) : Fin 3 → Nat :=
  let c0_538 : Index := 0#32
  let c960_539 : Index := 960#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1579 : Index := Scalar.indexCast v39
  ![0, 960, v1579.toNat]
def k0_off122 (k0_t2 : Fin k0_t2_loop.trips) : Fin 3 → Nat :=
  let c1_540 : Index := 1#32
  let c960_541 : Index := 960#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1583 : Index := Scalar.indexCast v39
  ![1, 960, v1583.toNat]
def k0_off123 (k0_t2 : Fin k0_t2_loop.trips) : Fin 2 → Nat :=
  let c992 : Index := 992#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1587 : Index := Scalar.indexCast v39
  ![992, v1587.toNat]
def k0_off124 (k0_t2 : Fin k0_t2_loop.trips) : Fin 3 → Nat :=
  let c0_554 : Index := 0#32
  let c992_555 : Index := 992#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1628 : Index := Scalar.indexCast v39
  ![0, 992, v1628.toNat]
def k0_off125 (k0_t2 : Fin k0_t2_loop.trips) : Fin 3 → Nat :=
  let c1_556 : Index := 1#32
  let c992_557 : Index := 992#32
  let c0_i32_8 : BitVec 32 := 0#32
  let c1_i32_9 : BitVec 32 := 1#32
  let arg14 : BitVec 32 := Scf.iv c0_i32_8 c1_i32_9 k0_t2
  let c128_i32 : BitVec 32 := 128#32
  let v38 : BitVec 32 := Scalar.muli arg14 c128_i32
  let v39 : BitVec 32 := v38
  let v1632 : Index := Scalar.indexCast v39
  ![1, 992, v1632.toNat]
def k0_cond2 (i : grid0.Coords) : BitVec 1 :=
  let arg2 : BitVec 32 := BitVec.ofNat 32 (i 2).val
  let c7_i32 : BitVec 32 := 7#32
  let v35 : BitVec 1 := Scalar.cmpi .eq arg2 c7_i32
  let v36 : BitVec 32 := Scalar.extui v35
  let c0_i32_30 : BitVec 32 := 0#32
  let v37 : BitVec 1 := Scalar.cmpi .ne v36 c0_i32_30
  v37

def k0_off126 (i : grid0.Coords) : Fin 1 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v38 : Index := Scalar.indexCast v9
  ![v38.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S128x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelIdeal.lean ====
abbrev S128x2x128 : Shape := ⟨3, ![128, 2, 128]⟩
abbrev S128x1x128 : Shape := ⟨3, ![128, 1, 128]⟩
abbrev S32x2x128 : Shape := ⟨3, ![32, 2, 128]⟩
abbrev S32x1x128 : Shape := ⟨3, ![32, 1, 128]⟩
abbrev S1x2x128 : Shape := ⟨3, ![1, 2, 128]⟩
abbrev S1x1x128 : Shape := ⟨3, ![1, 1, 128]⟩
  | .local _ .vmem, ⟨13, _⟩ => ⟨S128x2x128, .bf16⟩
variable {F : FTy → Type} [FloatOps F]
-- ==== ReferenceIdeal.lean ====
abbrev S2x4096x8192 : Shape := ⟨3, ![2, 4096, 8192]⟩
abbrev S2x4096x1024 : Shape := ⟨3, ![2, 4096, 1024]⟩
abbrev S4 : Shape := ⟨1, ![4]⟩
abbrev S8192x13312 : Shape := ⟨2, ![8192, 13312]⟩
abbrev S1024x13312 : Shape := ⟨2, ![1024, 13312]⟩
abbrev S1 : Shape := ⟨1, ![1]⟩
abbrev S2x4096x1024x1 : Shape := ⟨4, ![2, 4096, 1024, 1]⟩
abbrev S1024x1x13312 : Shape := ⟨3, ![1024, 1, 13312]⟩
abbrev S2x4096x1024x8 : Shape := ⟨4, ![2, 4096, 1024, 8]⟩
abbrev S1024x8x13312 : Shape := ⟨3, ![1024, 8, 13312]⟩
abbrev S2x4096x13312 : Shape := ⟨3, ![2, 4096, 13312]⟩
abbrev S4x1 : Shape := ⟨2, ![4, 1]⟩
abbrev S4x1024 : Shape := ⟨2, ![4, 1024]⟩
abbrev S4096 : Shape := ⟨1, ![4096]⟩
abbrev S1x4096x1 : Shape := ⟨3, ![1, 4096, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x8192, .i8⟩
  | .hbm, ⟨1, _⟩ => ⟨S2x4096x1024, .fp8e4m3⟩
  | .hbm, ⟨2, _⟩ => ⟨S4, .f32⟩
  | .hbm, ⟨3, _⟩ => ⟨S8192x13312, .i8⟩
  | .hbm, ⟨4, _⟩ => ⟨S1024x13312, .fp8e4m3⟩
  | .hbm, ⟨5, _⟩ => ⟨S1, .f32⟩
  | .hbm, ⟨6, _⟩ => ⟨S8192x13312, .bf16⟩
  | .local _ .vmem, ⟨0, _⟩ => ⟨S2x4096x8192, .i8⟩
  | .local _ .vmem, ⟨1, _⟩ => ⟨S2x4096x1024, .fp8e4m3⟩
  | .local _ .vmem, ⟨2, _⟩ => ⟨S4, .f32⟩
  | .local _ .vmem, ⟨3, _⟩ => ⟨S8192x13312, .i8⟩
  | .local _ .vmem, ⟨4, _⟩ => ⟨S1024x13312, .fp8e4m3⟩
  | .local _ .vmem, ⟨5, _⟩ => ⟨S1, .f32⟩
  | .local _ .vmem, ⟨6, _⟩ => ⟨S8192x13312, .bf16⟩
  | _, _ => ⟨S2x4096x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4096x8192 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x13312 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x13312 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x13312 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KFrame.lean ====
/-
  The frame of `Kernel`: the body's run at one point of the grid, what its stores leave named nowhere (the output window is forgotten,
  the scratch is held at some contents), and the launch.
-/
module

public import proofs.«01_k».proof.Proof.Gen.Kernel.Frame
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The condition under which the body clears its accumulator: the innermost coordinate of the point is 0. -/
abbrev cond1 (i : grid0.Coords) : BitVec 1 :=
  Scalar.cmpi .ne (Scalar.extui (Scalar.cmpi .eq (BitVec.ofNat 32 (i 2).val) 0#32) : BitVec 32) 0#32

/-! ## The body, run once -/

set_option maxHeartbeats 4000000 in
/-- The body's triple: the inputs' memrefs come back as they were, the output's and the scratch at some contents. -/
theorem frameRun (c : Dev nD) (E : Set ℕ) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x128 .i32) (harg13 : arg13.IsWhole) (x3 : Vec F S4 .f32) (x4 : Vec F S1 .f32) (x5 : Vec F S1024x1024 .i8) (x6 : Vec F S1024x128 .fp8e4m3) (x7 : Vec F S1024x1024 .i8) (x8 : Vec F S128x1024 .fp8e4m3) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13) K := by
  by_cases h1 : cond1 i = 1#1 <;> by_cases h2 : k0_cond2 i = 1#1 <;>
  · simp only [cc0__body_eq_skeleton]; unfold cc0__body_skel
    simp only [k0_part53_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    subst hf3 hf4 hf5 hf6 hf7 hf8
    sl_exec
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-! ## The proof data and the body obligation -/

/-- The output is the one window forgotten. -/
def forgets0 : Fin 7 → Bool := fun w => w.val == 6

/-- The proof data on core `c`: each input's array as the region finds it and its buffer at its block; what the output's holds is not named; the
    scratch at some contents. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]
theorem afterF_5 (c : Dev nD) (t : Fin cfg0.N) : (datsF m 0 c).after 5 t = iblk m c 5 t := by dsimp only [datsF]
theorem beforeF_0 (c : Dev nD) (t : Fin cfg0.N) (d) : (datsF m 0 c).before 0 t d = iblk m c 0 t :=
  before0_0_of m (datsF m 0 c) (A_eqF m c 0) (afterF_0 m c) t d
theorem beforeF_1 (c : Dev nD) (t : Fin cfg0.N) (d) : (datsF m 0 c).before 1 t d = iblk m c 1 t :=
  before0_1_of m (datsF m 0 c) (A_eqF m c 1) (afterF_1 m c) t d
theorem beforeF_2 (c : Dev nD) (t : Fin cfg0.N) (d) : (datsF m 0 c).before 2 t d = iblk m c 2 t :=
  before0_2_of m (datsF m 0 c) (A_eqF m c 2) (afterF_2 m c) t d
theorem beforeF_3 (c : Dev nD) (t : Fin cfg0.N) (d) : (datsF m 0 c).before 3 t d = iblk m c 3 t :=
  before0_3_of m (datsF m 0 c) (A_eqF m c 3) (afterF_3 m c) t d
theorem beforeF_4 (c : Dev nD) (t : Fin cfg0.N) (d) : (datsF m 0 c).before 4 t d = iblk m c 4 t :=
  before0_4_of m (datsF m 0 c) (A_eqF m c 4) (afterF_4 m c) t d
theorem beforeF_5 (c : Dev nD) (t : Fin cfg0.N) (d) : (datsF m 0 c).before 5 t d = iblk m c 5 t :=
  before0_5_of m (datsF m 0 c) (A_eqF m c 5) (afterF_5 m c) t d

/-- The invariant conjunct by conjunct. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ d, owns (c : Thread nD τ) (st0_6 t) fullShare d))

def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ (∃ d, owns (c : Thread nD τ) (st0_6 t) fullShare d))

/-- The body at any point. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4, beforeF_5]
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, PhiA_eq,
    afterF_0, afterF_1, afterF_2, afterF_3, afterF_4, afterF_5]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (frameRun c Set.univ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with the output forgotten. -/
theorem body_obligationF (c : Dev nD) : BodyObligation (datsF (F := F) m 0 c) (defs₀ (F := F)) Variants.none () Set.univ forgets0 := fun t => by
  rw [bigSep_W0, bigSep_W0, defs₀_row]
  exact triple_restated (sound_bodyF m c t) rfl .rfl fun _ => .rfl

/-! ## The run and the frame -/

set_option backward.isDefEq.respectTransparency.types false in
set_option maxHeartbeats 800000 in
/-- The launch: nothing is said of the output; every counter ends at zero. -/
theorem run_mainF : θ_run defs (onTc (τ := τ) (main (F := F))) (s₀ m ρ)
    (fun r => Pipeline.RDat.FramePost (cfgs 0) (fun c => (datsF m 0 c).toRForget forgets0) (V m) r ∧ r.2.sem = fun _ => 0) :=
  Pipeline.θ_run_frame_forget (Q' := _) cfgs (datsF m) (0 : Fin 1) launch0 defs₀ Variants.none forgets0 m ρ main
    (hbody := fun c => (body_obligationF m c).loose) (hshare := fun c => (datsF m 0 c).share_full fun _ => rfl)
    (howed := fun _ _ => rfl) (V := V m) (hmain := hmain m Variants.none) (hA := A_eqF m) (hΦ := fun _ _ => rfl)

/-- The frame: every argument array ends as it began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  (θ_run defs _ _).mono (fun r hr => ⟨fun c => by
    have h := hr.1
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((A_eqF m c 0).trans (V_main_arg2 m c)),
      (Pipeline.RDat.FramePost.arr_in h c 4 rfl).trans ((A_eqF m c 4).trans (V_main_arg3 m c)),
      (Pipeline.RDat.FramePost.arr_in h c 5 rfl).trans ((A_eqF m c 5).trans (V_main_arg4 m c)),
      (Pipeline.RDat.FramePost.arr_in h c 1 rfl).trans ((A_eqF m c 1).trans (V_main_arg5 m c))⟩, hr.2⟩) (run_mainF m ρ)

end Cert.Kernel.Hand

end
-- ==== Proof.KIFrame.lean ====
/-
  The frame of `KernelIdeal`: the body's run at one point of the grid, what its stores leave named nowhere (the output window is forgotten,
  the scratch is held at some contents), and the launch.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body clears its accumulator: the innermost coordinate of the point is 0. -/
abbrev cond1 (i : grid0.Coords) : BitVec 1 :=
  Scalar.cmpi .ne (Scalar.extui (Scalar.cmpi .eq (BitVec.ofNat 32 (i 2).val) 0#32) : BitVec 32) 0#32

/-! ## The body, run once -/

set_option maxHeartbeats 4000000 in
/-- The body's triple: the inputs' memrefs come back as they were, the output's and the scratch at some contents. -/
theorem frameRun (c : Dev nD) (E : Set ℕ) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (x3 : Vec F S4 .f32) (x4 : Vec F S1 .f32) (x5 : Vec F S1024x1024 .i8) (x6 : Vec F S1024x128 .fp8e4m3) (x7 : Vec F S1024x1024 .i8) (x8 : Vec F S128x1024 .fp8e4m3) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13) K := by
  by_cases h1 : cond1 i = 1#1 <;> by_cases h2 : k0_cond2 i = 1#1 <;>
  · simp only [cc0__body_eq_skeleton]; unfold cc0__body_skel
    simp only [k0_part61_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    subst hf3 hf4 hf5 hf6 hf7 hf8
    sl_exec
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-! ## The proof data and the body obligation -/

/-- The output is the one window forgotten. -/
def forgets0 : Fin 7 → Bool := fun w => w.val == 6

/-- The proof data on core `c`: each input's array as the region finds it and its buffer at its block; what the output's holds is not named; the
    scratch at some contents. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]
theorem afterF_5 (c : Dev nD) (t : Fin cfg0.N) : (datsF m 0 c).after 5 t = iblk m c 5 t := by dsimp only [datsF]
theorem beforeF_0 (c : Dev nD) (t : Fin cfg0.N) (d) : (datsF m 0 c).before 0 t d = iblk m c 0 t :=
  before0_0_of m (datsF m 0 c) (A_eqF m c 0) (afterF_0 m c) t d
theorem beforeF_1 (c : Dev nD) (t : Fin cfg0.N) (d) : (datsF m 0 c).before 1 t d = iblk m c 1 t :=
  before0_1_of m (datsF m 0 c) (A_eqF m c 1) (afterF_1 m c) t d
theorem beforeF_2 (c : Dev nD) (t : Fin cfg0.N) (d) : (datsF m 0 c).before 2 t d = iblk m c 2 t :=
  before0_2_of m (datsF m 0 c) (A_eqF m c 2) (afterF_2 m c) t d
theorem beforeF_3 (c : Dev nD) (t : Fin cfg0.N) (d) : (datsF m 0 c).before 3 t d = iblk m c 3 t :=
  before0_3_of m (datsF m 0 c) (A_eqF m c 3) (afterF_3 m c) t d
theorem beforeF_4 (c : Dev nD) (t : Fin cfg0.N) (d) : (datsF m 0 c).before 4 t d = iblk m c 4 t :=
  before0_4_of m (datsF m 0 c) (A_eqF m c 4) (afterF_4 m c) t d
theorem beforeF_5 (c : Dev nD) (t : Fin cfg0.N) (d) : (datsF m 0 c).before 5 t d = iblk m c 5 t :=
  before0_5_of m (datsF m 0 c) (A_eqF m c 5) (afterF_5 m c) t d

/-- The invariant conjunct by conjunct. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ d, owns (c : Thread nD τ) (st0_6 t) fullShare d))

def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ (∃ d, owns (c : Thread nD τ) (st0_6 t) fullShare d))

/-- The body at any point. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4, beforeF_5]
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, PhiA_eq,
    afterF_0, afterF_1, afterF_2, afterF_3, afterF_4, afterF_5]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (frameRun c Set.univ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with the output forgotten. -/
theorem body_obligationF (c : Dev nD) : BodyObligation (datsF (F := F) m 0 c) (defs₀ (F := F)) Variants.none () Set.univ forgets0 := fun t => by
  rw [bigSep_W0, bigSep_W0, defs₀_row]
  exact triple_restated (sound_bodyF m c t) rfl .rfl fun _ => .rfl

/-! ## The run and the frame -/

set_option backward.isDefEq.respectTransparency.types false in
set_option maxHeartbeats 800000 in
/-- The launch: nothing is said of the output; every counter ends at zero. -/
theorem run_mainF : θ_run defs (onTc (τ := τ) (main (F := F))) (s₀ m ρ)
    (fun r => Pipeline.RDat.FramePost (cfgs 0) (fun c => (datsF m 0 c).toRForget forgets0) (V m) r ∧ r.2.sem = fun _ => 0) :=
  Pipeline.θ_run_frame_forget (Q' := _) cfgs (datsF m) (0 : Fin 1) launch0 defs₀ Variants.none forgets0 m ρ main
    (hbody := fun c => (body_obligationF m c).loose) (hshare := fun c => (datsF m 0 c).share_full fun _ => rfl)
    (howed := fun _ _ => rfl) (V := V m) (hmain := hmain m Variants.none) (hA := A_eqF m) (hΦ := fun _ _ => rfl)

/-- The frame: every argument array ends as it began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  (θ_run defs _ _).mono (fun r hr => ⟨fun c => by
    have h := hr.1
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((A_eqF m c 0).trans (V_main_arg2 m c)),
      (Pipeline.RDat.FramePost.arr_in h c 4 rfl).trans ((A_eqF m c 4).trans (V_main_arg3 m c)),
      (Pipeline.RDat.FramePost.arr_in h c 5 rfl).trans ((A_eqF m c 5).trans (V_main_arg4 m c)),
      (Pipeline.RDat.FramePost.arr_in h c 1 rfl).trans ((A_eqF m c 1).trans (V_main_arg5 m c))⟩, hr.2⟩) (run_mainF m ρ)

end Cert.KernelIdeal.Hand

end
-- ==== Proof.Preserves.lean ====
/-
  The statements of the rules the idealization used, each the library's theorem at its shapes.
-/
module

public import proofs.«01_k».proof.Defs
public import Idealize.ShloMosaic.Lib.Bf16Pair
public import Idealize.ShloMosaic.Lib.Bf16PairInverse

@[expose] public section

namespace Cert.Hand

open Idealize.ShloMosaic

theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

end Cert.Hand
-- ==== Proof.Bytes.lean ====
module

public import proofs.«01_k».proof.Proof.Gen.KernelIdeal
public import Idealize.ShloMosaic.Lib.BitcastFour
public import Idealize.ShloMosaic.Lib.ValueIdx
public import Idealize.ShloMosaic.PureOps.Ideal

/-!
What one byte of codes becomes: four rows of bytes are handled as one 32-bit word, and the word operations
of the kernel act byte by byte.
-/

@[expose] public section

noncomputable section

namespace Cert.KernelIdeal.Hand

open Idealize.ShloMosaic Idealize.ShloMosaic.TcCoe
open Cert.KernelIdeal.Gen

/-- The eight bits of the float of a byte's low half. -/
def loByte (b : BitVec 8) : BitVec 8 := ((b <<< 2) &&& 0x1C#8) ||| ((b <<< 4) &&& 0x80#8)

/-- The eight bits of the float of a byte's high half. -/
def hiByte (b : BitVec 8) : BitVec 8 := ((b >>> 2) &&& 0x1C#8) ||| (b &&& 0x80#8)

/-- The float of a byte's low half. -/
def loVal (b : BitVec 8) : EReal := Ideal.ofBits .fp8e4m3 (loByte b)

/-- The float of a byte's high half. -/
def hiVal (b : BitVec 8) : EReal := Ideal.ofBits .fp8e4m3 (hiByte b)

/-- The word operations for the low halves of four bytes. -/
def loWord (w : BitVec 32) : BitVec 32 :=
  IntOp.ori (IntOp.andi (IntOp.shli .vector w 2#32) 471604252#32) (IntOp.andi (IntOp.shli .vector w 4#32) 2155905152#32)

/-- The word operations for the high halves of four bytes. -/
def hiWord (w : BitVec 32) : BitVec 32 :=
  IntOp.ori (IntOp.andi (IntOp.shrsi .vector w 2#32) 471604252#32) (IntOp.andi w 2155905152#32)

theorem loWord_byte (w : BitVec 32) (s : ℕ) (hs : s < 4) (q : ℕ) (hq : q < 8) :
    (loWord w).getLsbD (8 * s + q) = (loByte (w.extractLsb' (8 * s) 8)).getLsbD q := by
  unfold loWord loByte IntOp.ori IntOp.andi IntOp.shli
  rw [if_pos (by decide), if_pos (by decide)]
  simp only [BitVec.getLsbD_or, BitVec.getLsbD_and, BitVec.shiftLeft_eq', BitVec.getLsbD_shiftLeft,
    BitVec.getLsbD_extractLsb']
  interval_cases s <;> interval_cases q <;> simp

theorem hiWord_byte (w : BitVec 32) (s : ℕ) (hs : s < 4) (q : ℕ) (hq : q < 8) :
    (hiWord w).getLsbD (8 * s + q) = (hiByte (w.extractLsb' (8 * s) 8)).getLsbD q := by
  unfold hiWord hiByte IntOp.ori IntOp.andi IntOp.shrsi
  rw [if_pos (by decide)]
  simp only [BitVec.getLsbD_or, BitVec.getLsbD_and, BitVec.sshiftRight', BitVec.getLsbD_sshiftRight,
    BitVec.getLsbD_extractLsb', BitVec.getLsbD_ushiftRight]
  interval_cases s <;> interval_cases q <;> simp

/-- A word operation that acts byte by byte, between the two readings of a block of bytes as words and back,
    is the byte operation at each place. -/
theorem words_bytes (f : BitVec 32 → BitVec 32) (g : BitVec 8 → BitVec 8)
    (hf : ∀ w s, s < 4 → ∀ q, q < 8 → (f w).getLsbD (8 * s + q) = (g (w.extractLsb' (8 * s) 8)).getLsbD q)
    (x : S32x128.Idx → BitVec 8) (h : S32x128.Bitcasts 8 S8x128 32) (h' : S8x128.Bitcasts 32 S32x128 8)
    (r : Fin 32) (l : Fin 128) :
    bitcast S32x128 8 (fun i => f (bitcast S8x128 32 x h i)) h' (ValueIdx.ix2 r l) = g (x (ValueIdx.ix2 r l)) := by
  apply BitVec.eq_of_getLsbD_eq
  intro q hq
  have hr : Shape.row (s := S32x128) (ValueIdx.ix2 r l) = r.val := rfl
  rw [bitcast_getLsbD _ h' _ q hq (by decide)]
  have hidx : (h'.srcIdx (ValueIdx.ix2 r l) ((Shape.row (s := S32x128) (ValueIdx.ix2 r l) * 8 + q) / 32)
      (fun a ha => (Nat.div_lt_iff_lt_mul (by decide)).2 (h'.pos_lt _ q hq a ha)))
      = ValueIdx.ix2 (⟨r.val / 4, by omega⟩ : Fin 8) l := by
    funext c
    match c with
    | ⟨0, _⟩ => exact Fin.ext ((h'.srcIdx_row _ _ _ ⟨0, Nat.zero_lt_two⟩ rfl).trans (by rw [hr]; show _ = r.val / 4; omega))
    | ⟨1, _⟩ => exact Fin.ext (h'.srcIdx_other _ _ _ ⟨1, Nat.one_lt_two⟩ (by show ¬ 1 + 2 = 2; omega))
  rw [hidx, hr, show (r.val * 8 + q) % 32 = 8 * (r.val % 4) + q by omega, hf _ _ (by omega) _ hq]
  congr 2
  apply BitVec.eq_of_getLsbD_eq
  intro p hp
  rw [BitVec.getLsbD_extractLsb',
    bitcast_8_32_getLsbD_ix2 x h _ l (8 * (r.val % 4) + p) (by omega) r (by show r.val = 4 * (r.val / 4) + _; omega)]
  simp only [hp, decide_true, Bool.true_and]
  congr 1
  omega

end Cert.KernelIdeal.Hand
-- ==== Proof.XPay.lean ====
module

public import proofs.«01_k».proof.Proof.Bytes
public import proofs.«01_k».proof.Proof.Gen.KernelIdeal.Skeleton
public import Idealize.ShloMosaic.Lib.Pointwise

/-!
One strip of the activations: 32 rows of codes in 128 lanes, scaled by the block scales of the strip.
-/

@[expose] public section

noncomputable section

namespace Cert.KernelIdeal.Hand

open Idealize.ShloMosaic Idealize.ShloMosaic.TcCoe
open Cert.KernelIdeal.Gen

/-- The lane of the scale of lane `l`, as the kernel computes it from the number of the first block. -/
def sIdx (l fb : BitVec 32) : BitVec 32 :=
  let d := IntOp.divsi .vector l 8#32
  let sg := IntOp.subi ((IntOp.cmpi .sgt l 0#32).setWidth 32) ((IntOp.cmpi .slt l 0#32).setWidth 32)
  let s8 := Scalar.subi (Scalar.extui (Scalar.cmpi .sgt 8#32 0#32)) (Scalar.extui (Scalar.cmpi .slt 8#32 0#32))
  let m := IntOp.andi (IntOp.cmpi .ne sg s8) (IntOp.cmpi .ne (IntOp.remsi .vector l 8#32) 0#32)
  let e := IntOp.addi (Scalar.select m (IntOp.subi d 1#32) d) fb
  Scalar.select (IntOp.cmpi .slt e 0#32) (IntOp.addi e 128#32) e

theorem sIdx_eq : ∀ (l : Fin 128) (c : Fin 8),
    (sIdx (BitVec.ofNat 32 l.val) (BitVec.ofNat 32 (16 * c.val))).toNat % 128 = l.val / 8 + 16 * c.val := by
  decide +kernel

/-- The index vector of the scales' lanes. -/
def xIdx (fb : BitVec 32) : IVec S32x128 32 :=
  shapeCast S32x128 (shapeCast S32x128x1 (fun i => sIdx (iota .tc S32x128 32 [1] iota_S32x128_d1_w32 i) fb)
    shapeCasts_S32x128_S32x128x1) shapeCasts_S32x128x1_S32x128

/-- The scales of a strip, lane by lane, times the constant. -/
def xScale (sv : FVec Ideal S32x128 .fp8e4m3) (fb : BitVec 32) : FVec Ideal S32x128 .bf16 :=
  mulf (truncf .bf16 (dynamicGather 1 (extf .f32 (shapeCast S32x128 sv shapeCasts_S32x128_S32x128) bitsLt_fp8e4m3_f32)
    (xIdx fb)) bitsLt_bf16_f32) (broadcast S32x128 (Scalar.ofBits .bf16 0x4580#16))

/-- The floats of a block of codes under a word operation. -/
def codeFloat (f : BitVec 32 → BitVec 32) (cv : IVec S32x128 8) : FVec Ideal S32x128 .bf16 :=
  extf .bf16 (bitcastToFloat .fp8e4m3 (bitcast S32x128 8
    (fun i => f (bitcast S8x128 32 (shapeCast S32x128 cv shapeCasts_S32x128_S32x128) bitcasts_S32x128_w8_S8x128_w32 i))
    bitcasts_S8x128_w32_S32x128_w8)) bitsLt_fp8e4m3_bf16

/-- A strip's payload. -/
def xStrip (f : BitVec 32 → BitVec 32) (cv : IVec S32x128 8) (sv : FVec Ideal S32x128 .fp8e4m3) (fb : BitVec 32) :
    FVec Ideal S1x32x128 .bf16 :=
  shapeCast S1x32x128 (mulf (codeFloat f cv) (xScale sv fb)) shapeCasts_S32x128_S1x32x128

theorem codeFloat_apply (f : BitVec 32 → BitVec 32) (g : BitVec 8 → BitVec 8)
    (hf : ∀ w s, s < 4 → ∀ q, q < 8 → (f w).getLsbD (8 * s + q) = (g (w.extractLsb' (8 * s) 8)).getLsbD q)
    (cv : IVec S32x128 8) (r : Fin 32) (l : Fin 128) :
    codeFloat f cv (ValueIdx.ix2 r l) = Ideal.ofBits .fp8e4m3 (g (cv (ValueIdx.ix2 r l))) := by
  unfold codeFloat
  show Ideal.ofBits .fp8e4m3 (bitcast S32x128 8 _ _ (ValueIdx.ix2 r l)) = _
  rw [shapeCast_id, words_bytes f g hf]

theorem xScale_apply (sv : FVec Ideal S32x128 .fp8e4m3) (c : Fin 8) (r : Fin 32) (l : Fin 128) :
    xScale sv (BitVec.ofNat 32 (16 * c.val)) (ValueIdx.ix2 r l)
      = sv (ValueIdx.ix2 r ⟨l.val / 8 + 16 * c.val, by omega⟩) * Ideal.ofBits .bf16 0x4580#16 := by
  unfold xScale xIdx
  rw [shapeCast_id, shapeCast_comp, shapeCast_id]
  show sv _ * Ideal.ofBits .bf16 0x4580#16 = _
  congr 2
  funext b
  match b with
  | ⟨0, _⟩ => rfl
  | ⟨1, _⟩ => exact Fin.ext (by
      show (sIdx _ _).toNat % 128 = _
      rw [show iota .tc S32x128 32 [1] iota_S32x128_d1_w32 (ValueIdx.ix2 r l) = BitVec.ofNat 32 l.val from by
        show BitVec.ofNat 32 (0 * _ + l.val) = _
        rw [Nat.zero_mul, Nat.zero_add]]
      exact sIdx_eq l c)

theorem xStrip_apply (f : BitVec 32 → BitVec 32) (g : BitVec 8 → BitVec 8)
    (hf : ∀ w s, s < 4 → ∀ q, q < 8 → (f w).getLsbD (8 * s + q) = (g (w.extractLsb' (8 * s) 8)).getLsbD q)
    (cv : IVec S32x128 8) (sv : FVec Ideal S32x128 .fp8e4m3) (c : Fin 8) (u : Fin 1) (r : Fin 32) (l : Fin 128) :
    xStrip f cv sv (BitVec.ofNat 32 (16 * c.val)) (ValueIdx.ix3 u r l)
      = Ideal.ofBits .fp8e4m3 (g (cv (ValueIdx.ix2 r l)))
        * (sv (ValueIdx.ix2 r ⟨l.val / 8 + 16 * c.val, by omega⟩) * Ideal.ofBits .bf16 0x4580#16) := by
  unfold xStrip
  rw [show shapeCast S1x32x128 (mulf (codeFloat f cv) (xScale sv (BitVec.ofNat 32 (16 * c.val)))) shapeCasts_S32x128_S1x32x128
      (ValueIdx.ix3 u r l) = mulf (codeFloat f cv) (xScale sv (BitVec.ofNat 32 (16 * c.val))) (ValueIdx.ix2 r l) from by pointwise; rfl]
  show codeFloat f cv _ * xScale sv _ _ = _
  rw [codeFloat_apply f g hf, xScale_apply]

end Cert.KernelIdeal.Hand
-- ==== Proof.XLoop.lean ====
module

public import proofs.«01_k».proof.Proof.XPay
public import proofs.«01_k».proof.Proof.Gen.KernelIdeal.Loops
public import Idealize.ShloMosaic.Lib.Pipeline.Value

/-!
The activations' loop: after its 32 trips the buffer of floats holds, for each row and lane, the float of the low
half of the code byte (first half of the buffer) and of the high half (second), times the block's scale.
-/

@[expose] public section

noncomputable section

namespace Cert.KernelIdeal.Hand

open Idealize.ShloMosaic Idealize.ShloMosaic.TcCoe
open Idealize.SL Idealize.SL.Sem
open Cert.KernelIdeal.Gen

/-- The float of one half of a byte. -/
def halfVal (u : ℕ) (b : BitVec 8) : EReal := if u = 0 then loVal b else hiVal b

/-- What the activations' loop leaves, from the block of codes and the block of scales. -/
def XD (C : S1024x1024.Idx → BitVec 8) (S : S1024x128.Idx → EReal) : S2x1024x1024.Idx → EReal := fun y =>
  halfVal (y 0).val (C (ValueIdx.ix2 (n0 := 1024) (n1 := 1024) (y 1) (y 2)))
    * (S (ValueIdx.ix2 (n0 := 1024) (n1 := 128) (y 1)
        ⟨(y 2).val / 8, Nat.div_lt_of_lt_mul (show (y 2).val < 8 * 128 from (y 2).isLt)⟩) * Ideal.ofBits .bf16 0x4580#16)

section Piece

variable (arg5 : Memref sig .tc .vmem S1024x1024 .i8) (arg6 : Memref sig .tc .vmem S1024x128 .fp8e4m3)
  (X5 : BufTy.Contents (Elt Ideal) arg5.view.ty) (X6 : BufTy.Contents (Elt Ideal) arg6.view.ty)

/-- One store of a trip writes the target on its rectangle. -/
theorem xPiece (f : BitVec 32 → BitVec 32) (g : BitVec 8 → BitVec 8)
    (hf : ∀ w s, s < 4 → ∀ q, q < 8 → (f w).getLsbD (8 * s + q) = (g (w.extractLsb' (8 * s) 8)).getLsbD q)
    (u : ℕ) (hu : ∀ b, Ideal.ofBits .fp8e4m3 (g b) = halfVal u b) (k : ℕ) (c : Fin 8)
    (o : Fin 3 → ℕ) (ho : o = ![u, 32 * k, 128 * c.val]) (inb : ∀ a, o a + (![1, 32, 128] : Fin 3 → ℕ) a ≤ S2x1024x1024.size a)
    (oc : Fin 2 → ℕ) (hoc : oc = ![32 * k, 128 * c.val]) (inbc : ∀ a, oc a + S32x128.size a ≤ S1024x1024.size a)
    (os : Fin 2 → ℕ) (hos : os = ![32 * k, 0]) (inbs : ∀ a, os a + S32x128.size a ≤ S1024x128.size a)
    (x : (Rect.unit (s := S2x1024x1024) o ![1, 32, 128] inb).shape.Idx) :
    xStrip f (View.readAt (Elt Ideal) arg5.view (Rect.unit (s := S1024x1024) oc S32x128.size inbc).toLoadRect X5)
        (View.readAt (Elt Ideal) arg6.view (Rect.unit (s := S1024x128) os S32x128.size inbs).toLoadRect X6) (BitVec.ofNat 32 (16 * c.val)) x
      = XD (arg5.view.read (Elt Ideal) X5) (arg6.view.read (Elt Ideal) X6)
          ((Rect.unit (s := S2x1024x1024) o ![1, 32, 128] inb).emb x) := by
  subst ho hoc hos
  obtain ⟨a, r, l, rfl⟩ : ∃ (a : Fin 1) (r : Fin 32) (l : Fin 128), x = ValueIdx.ix3 a r l := ⟨x 0, x 1, x 2, ValueIdx.eq_ix3 x⟩
  refine (xStrip_apply f g hf _ _ c a r l).trans ?_
  rw [hu]
  have ha : a.val = 0 := by omega
  unfold XD
  rw [View.readAt_eq_ld, View.readAt_eq_ld]
  have e0 : (((Rect.unit (s := S2x1024x1024) ![u, 32 * k, 128 * c.val] ![1, 32, 128] inb).emb (ValueIdx.ix3 a r l)) 0).val = u := by
    show u + 1 * a.val = u
    omega
  rw [e0]
  congr 2
  · unfold View.ld
    congr 1
    funext d
    match d with
    | ⟨0, _⟩ => rfl
    | ⟨1, _⟩ => rfl
  · unfold View.ld
    congr 1
    funext d
    match d with
    | ⟨0, _⟩ => rfl
    | ⟨1, _⟩ => exact Fin.ext (by
        show 0 + 1 * (l.val / 8 + 16 * c.val) = (128 * c.val + 1 * l.val) / 8
        omega)

end Piece

/-- A store's rectangle, by coordinates. -/
theorem mem_strip (y : S2x1024x1024.Idx) (u r c : ℕ) (o : Fin 3 → ℕ) (ho : o = ![u, r, c])
    (inb : ∀ a, o a + (![1, 32, 128] : Fin 3 → ℕ) a ≤ S2x1024x1024.size a)
    (h0 : (y 0).val = u) (h1 : r ≤ (y 1).val ∧ (y 1).val < r + 32) (h2 : c ≤ (y 2).val ∧ (y 2).val < c + 128) :
    y ∈ (Rect.unit (s := S2x1024x1024) o ![1, 32, 128] inb).set := by
  subst ho
  refine Rect.mem_set_unit.mpr fun a => ?_
  match a with
  | ⟨0, _⟩ => exact ⟨h0.ge, by show (y 0).val < u + 1; omega⟩
  | ⟨1, _⟩ => exact h1
  | ⟨2, _⟩ => exact h2

theorem t1_pieces (𝒱 : Variants) (c : Dev nD) (bd : Option 𝒱.V) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (X5 : BufTy.Contents (Elt Ideal) arg5.view.ty) (X6 : BufTy.Contents (Elt Ideal) arg6.view.ty) (k : Fin k0_t1_loop.trips) :
    ∀ p ∈ tripL_k0_t1 (F := Ideal) 𝒱 c bd i arg3 harg3 arg4 harg4 arg5 harg5 arg6 harg6 arg7 harg7 arg8 harg8 arg9 harg9 arg10 harg10 arg11 harg11 arg12 harg12 arg13 harg13 X5 X6 k,
      ∀ x : p.1.shape.Idx, p.2 x = XD (arg5.view.read (Elt Ideal) X5) (arg6.view.read (Elt Ideal) X6) (p.1.emb x) := by
  unfold tripL_k0_t1
  delta trip_k0_t1
  dsimp only
  simp only [List.forall_mem_cons]
  refine ⟨?_, ?_, ?_, ?_, ?_, ?_, ?_, ?_, ?_, ?_, ?_, ?_, ?_, ?_, ?_, ?_, fun p hp => absurd hp List.not_mem_nil⟩
  · exact fun x => xPiece arg5 arg6 X5 X6 hiWord hiByte hiWord_byte 1 (fun _ => rfl) k.val 7 (k0_off25 k) (k0_off25_eq k) (k0_off25_inb k) (k0_off23 k) (k0_off23_eq k) (k0_off23_inb k) (k0_off1 k) (k0_off1_eq k) (k0_off1_inb k) x
  · exact fun x => xPiece arg5 arg6 X5 X6 loWord loByte loWord_byte 0 (fun _ => rfl) k.val 7 (k0_off24 k) (k0_off24_eq k) (k0_off24_inb k) (k0_off23 k) (k0_off23_eq k) (k0_off23_inb k) (k0_off1 k) (k0_off1_eq k) (k0_off1_inb k) x
  · exact fun x => xPiece arg5 arg6 X5 X6 hiWord hiByte hiWord_byte 1 (fun _ => rfl) k.val 6 (k0_off22 k) (k0_off22_eq k) (k0_off22_inb k) (k0_off20 k) (k0_off20_eq k) (k0_off20_inb k) (k0_off1 k) (k0_off1_eq k) (k0_off1_inb k) x
  · exact fun x => xPiece arg5 arg6 X5 X6 loWord loByte loWord_byte 0 (fun _ => rfl) k.val 6 (k0_off21 k) (k0_off21_eq k) (k0_off21_inb k) (k0_off20 k) (k0_off20_eq k) (k0_off20_inb k) (k0_off1 k) (k0_off1_eq k) (k0_off1_inb k) x
  · exact fun x => xPiece arg5 arg6 X5 X6 hiWord hiByte hiWord_byte 1 (fun _ => rfl) k.val 5 (k0_off19 k) (k0_off19_eq k) (k0_off19_inb k) (k0_off17 k) (k0_off17_eq k) (k0_off17_inb k) (k0_off1 k) (k0_off1_eq k) (k0_off1_inb k) x
  · exact fun x => xPiece arg5 arg6 X5 X6 loWord loByte loWord_byte 0 (fun _ => rfl) k.val 5 (k0_off18 k) (k0_off18_eq k) (k0_off18_inb k) (k0_off17 k) (k0_off17_eq k) (k0_off17_inb k) (k0_off1 k) (k0_off1_eq k) (k0_off1_inb k) x
  · exact fun x => xPiece arg5 arg6 X5 X6 hiWord hiByte hiWord_byte 1 (fun _ => rfl) k.val 4 (k0_off16 k) (k0_off16_eq k) (k0_off16_inb k) (k0_off14 k) (k0_off14_eq k) (k0_off14_inb k) (k0_off1 k) (k0_off1_eq k) (k0_off1_inb k) x
  · exact fun x => xPiece arg5 arg6 X5 X6 loWord loByte loWord_byte 0 (fun _ => rfl) k.val 4 (k0_off15 k) (k0_off15_eq k) (k0_off15_inb k) (k0_off14 k) (k0_off14_eq k) (k0_off14_inb k) (k0_off1 k) (k0_off1_eq k) (k0_off1_inb k) x
  · exact fun x => xPiece arg5 arg6 X5 X6 hiWord hiByte hiWord_byte 1 (fun _ => rfl) k.val 3 (k0_off13 k) (k0_off13_eq k) (k0_off13_inb k) (k0_off11 k) (k0_off11_eq k) (k0_off11_inb k) (k0_off1 k) (k0_off1_eq k) (k0_off1_inb k) x
  · exact fun x => xPiece arg5 arg6 X5 X6 loWord loByte loWord_byte 0 (fun _ => rfl) k.val 3 (k0_off12 k) (k0_off12_eq k) (k0_off12_inb k) (k0_off11 k) (k0_off11_eq k) (k0_off11_inb k) (k0_off1 k) (k0_off1_eq k) (k0_off1_inb k) x
  · exact fun x => xPiece arg5 arg6 X5 X6 hiWord hiByte hiWord_byte 1 (fun _ => rfl) k.val 2 (k0_off10 k) (k0_off10_eq k) (k0_off10_inb k) (k0_off8 k) (k0_off8_eq k) (k0_off8_inb k) (k0_off1 k) (k0_off1_eq k) (k0_off1_inb k) x
  · exact fun x => xPiece arg5 arg6 X5 X6 loWord loByte loWord_byte 0 (fun _ => rfl) k.val 2 (k0_off9 k) (k0_off9_eq k) (k0_off9_inb k) (k0_off8 k) (k0_off8_eq k) (k0_off8_inb k) (k0_off1 k) (k0_off1_eq k) (k0_off1_inb k) x
  · exact fun x => xPiece arg5 arg6 X5 X6 hiWord hiByte hiWord_byte 1 (fun _ => rfl) k.val 1 (k0_off7 k) (k0_off7_eq k) (k0_off7_inb k) (k0_off5 k) (k0_off5_eq k) (k0_off5_inb k) (k0_off1 k) (k0_off1_eq k) (k0_off1_inb k) x
  · exact fun x => xPiece arg5 arg6 X5 X6 loWord loByte loWord_byte 0 (fun _ => rfl) k.val 1 (k0_off6 k) (k0_off6_eq k) (k0_off6_inb k) (k0_off5 k) (k0_off5_eq k) (k0_off5_inb k) (k0_off1 k) (k0_off1_eq k) (k0_off1_inb k) x
  · exact fun x => xPiece arg5 arg6 X5 X6 hiWord hiByte hiWord_byte 1 (fun _ => rfl) k.val 0 (k0_off4 k) (k0_off4_eq k) (k0_off4_inb k) (k0_off2 k) (k0_off2_eq k) (k0_off2_inb k) (k0_off1 k) (k0_off1_eq k) (k0_off1_inb k) x
  · exact fun x => xPiece arg5 arg6 X5 X6 loWord loByte loWord_byte 0 (fun _ => rfl) k.val 0 (k0_off3 k) (k0_off3_eq k) (k0_off3_inb k) (k0_off2 k) (k0_off2_eq k) (k0_off2_inb k) (k0_off1 k) (k0_off1_eq k) (k0_off1_inb k) x

theorem t1_cover (𝒱 : Variants) (c : Dev nD) (bd : Option 𝒱.V) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (X5 : BufTy.Contents (Elt Ideal) arg5.view.ty) (X6 : BufTy.Contents (Elt Ideal) arg6.view.ty) (k : Fin k0_t1_loop.trips)
    (y : S2x1024x1024.Idx) (h1 : 32 * k.val ≤ (y 1).val) (h2 : (y 1).val < 32 * k.val + 32) :
    ∃ p ∈ tripL_k0_t1 (F := Ideal) 𝒱 c bd i arg3 harg3 arg4 harg4 arg5 harg5 arg6 harg6 arg7 harg7 arg8 harg8 arg9 harg9 arg10 harg10 arg11 harg11 arg12 harg12 arg13 harg13 X5 X6 k, y ∈ p.1.set := by
  have b0 : (y 0).val < 2 := (y 0).isLt
  have b2 : (y 2).val < 1024 := (y 2).isLt
  unfold tripL_k0_t1
  delta trip_k0_t1
  dsimp only
  have hc : (y 2).val / 128 < 8 := by omega
  have h0 : (y 0).val = 0 ∨ (y 0).val = 1 := by omega
  generalize hq : (y 2).val / 128 = q at hc
  interval_cases q <;> rcases h0 with h0 | h0
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem_strip y 0 (32 * k.val) 0 _ (k0_off3_eq k) (k0_off3_inb k) h0 ⟨h1, h2⟩ ⟨by omega, by omega⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_strip y 1 (32 * k.val) 0 _ (k0_off4_eq k) (k0_off4_inb k) h0 ⟨h1, h2⟩ ⟨by omega, by omega⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_strip y 0 (32 * k.val) 128 _ (k0_off6_eq k) (k0_off6_inb k) h0 ⟨h1, h2⟩ ⟨by omega, by omega⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_strip y 1 (32 * k.val) 128 _ (k0_off7_eq k) (k0_off7_inb k) h0 ⟨h1, h2⟩ ⟨by omega, by omega⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_strip y 0 (32 * k.val) 256 _ (k0_off9_eq k) (k0_off9_inb k) h0 ⟨h1, h2⟩ ⟨by omega, by omega⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_strip y 1 (32 * k.val) 256 _ (k0_off10_eq k) (k0_off10_inb k) h0 ⟨h1, h2⟩ ⟨by omega, by omega⟩⟩
  · exact ⟨_, (List.Mem.tail _ (List.Mem.tail _ (List.Mem.tail _ (List.Mem.tail _ (List.Mem.tail _ (List.Mem.tail _ (List.Mem.tail _ (List.Mem.tail _ (List.Mem.tail _ (List.Mem.head _)))))))))), mem_strip y 0 (32 * k.val) 384 _ (k0_off12_eq k) (k0_off12_inb k) h0 ⟨h1, h2⟩ ⟨by omega, by omega⟩⟩
  · exact ⟨_, (List.Mem.tail _ (List.Mem.tail _ (List.Mem.tail _ (List.Mem.tail _ (List.Mem.tail _ (List.Mem.tail _ (List.Mem.tail _ (List.Mem.tail _ (List.Mem.head _))))))))), mem_strip y 1 (32 * k.val) 384 _ (k0_off13_eq k) (k0_off13_inb k) h0 ⟨h1, h2⟩ ⟨by omega, by omega⟩⟩
  · exact ⟨_, (List.Mem.tail _ (List.Mem.tail _ (List.Mem.tail _ (List.Mem.tail _ (List.Mem.tail _ (List.Mem.tail _ (List.Mem.tail _ (List.Mem.head _)))))))), mem_strip y 0 (32 * k.val) 512 _ (k0_off15_eq k) (k0_off15_inb k) h0 ⟨h1, h2⟩ ⟨by omega, by omega⟩⟩
  · exact ⟨_, (List.Mem.tail _ (List.Mem.tail _ (List.Mem.tail _ (List.Mem.tail _ (List.Mem.tail _ (List.Mem.tail _ (List.Mem.head _))))))), mem_strip y 1 (32 * k.val) 512 _ (k0_off16_eq k) (k0_off16_inb k) h0 ⟨h1, h2⟩ ⟨by omega, by omega⟩⟩
  · exact ⟨_, (List.Mem.tail _ (List.Mem.tail _ (List.Mem.tail _ (List.Mem.tail _ (List.Mem.tail _ (List.Mem.head _)))))), mem_strip y 0 (32 * k.val) 640 _ (k0_off18_eq k) (k0_off18_inb k) h0 ⟨h1, h2⟩ ⟨by omega, by omega⟩⟩
  · exact ⟨_, (List.Mem.tail _ (List.Mem.tail _ (List.Mem.tail _ (List.Mem.tail _ (List.Mem.head _))))), mem_strip y 1 (32 * k.val) 640 _ (k0_off19_eq k) (k0_off19_inb k) h0 ⟨h1, h2⟩ ⟨by omega, by omega⟩⟩
  · exact ⟨_, (List.Mem.tail _ (List.Mem.tail _ (List.Mem.tail _ (List.Mem.head _)))), mem_strip y 0 (32 * k.val) 768 _ (k0_off21_eq k) (k0_off21_inb k) h0 ⟨h1, h2⟩ ⟨by omega, by omega⟩⟩
  · exact ⟨_, (List.Mem.tail _ (List.Mem.tail _ (List.Mem.head _))), mem_strip y 1 (32 * k.val) 768 _ (k0_off22_eq k) (k0_off22_inb k) h0 ⟨h1, h2⟩ ⟨by omega, by omega⟩⟩
  · exact ⟨_, (List.Mem.tail _ (List.Mem.head _)), mem_strip y 0 (32 * k.val) 896 _ (k0_off24_eq k) (k0_off24_inb k) h0 ⟨h1, h2⟩ ⟨by omega, by omega⟩⟩
  · exact ⟨_, (List.Mem.head _), mem_strip y 1 (32 * k.val) 896 _ (k0_off25_eq k) (k0_off25_inb k) h0 ⟨h1, h2⟩ ⟨by omega, by omega⟩⟩

/-- The loop's result, read back. -/
theorem t1_read (𝒱 : Variants) (c : Dev nD) (bd : Option 𝒱.V) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (X5 : BufTy.Contents (Elt Ideal) arg5.view.ty) (X6 : BufTy.Contents (Elt Ideal) arg6.view.ty) (G : BufTy.Contents (Elt Ideal) arg11.view.ty) :
    arg11.view.read (Elt Ideal) (arg11.view.writes (Elt Ideal) G (pb_k0_t1 (F := Ideal) 𝒱 c bd i arg3 harg3 arg4 harg4 arg5 harg5 arg6 harg6 arg7 harg7 arg8 harg8 arg9 harg9 arg10 harg10 arg11 harg11 arg12 harg12 arg13 harg13 X5 X6 k0_t1_loop.trips))
      = XD (arg5.view.read (Elt Ideal) X5) (arg6.view.read (Elt Ideal) X6) := by
  have ht : k0_t1_loop.trips = 32 := by decide
  have key : ∀ n, n ≤ k0_t1_loop.trips →
      (∀ p ∈ pb_k0_t1 (F := Ideal) 𝒱 c bd i arg3 harg3 arg4 harg4 arg5 harg5 arg6 harg6 arg7 harg7 arg8 harg8 arg9 harg9 arg10 harg10 arg11 harg11 arg12 harg12 arg13 harg13 X5 X6 n,
        ∀ x : p.1.shape.Idx, p.2 x = XD (arg5.view.read (Elt Ideal) X5) (arg6.view.read (Elt Ideal) X6) (p.1.emb x))
      ∧ ∀ y : S2x1024x1024.Idx, (y 1).val < 32 * n →
          ∃ p ∈ pb_k0_t1 (F := Ideal) 𝒱 c bd i arg3 harg3 arg4 harg4 arg5 harg5 arg6 harg6 arg7 harg7 arg8 harg8 arg9 harg9 arg10 harg10 arg11 harg11 arg12 harg12 arg13 harg13 X5 X6 n, y ∈ p.1.set := by
    intro n
    induction n with
    | zero =>
      intro _
      exact ⟨fun p hp => absurd hp List.not_mem_nil, fun y hy => absurd hy (by omega)⟩
    | succ n ih =>
      intro hn
      obtain ⟨ihp, ihc⟩ := ih (by omega)
      rw [pb_k0_t1_succ (F := Ideal) 𝒱 c bd i arg3 harg3 arg4 harg4 arg5 harg5 arg6 harg6 arg7 harg7 arg8 harg8 arg9 harg9 arg10 harg10 arg11 harg11 arg12 harg12 arg13 harg13 X5 X6 ⟨n, hn⟩]
      refine ⟨fun p hp => ?_, fun y hy => ?_⟩
      · rcases List.mem_append.mp hp with h | h
        · exact t1_pieces 𝒱 c bd i arg3 harg3 arg4 harg4 arg5 harg5 arg6 harg6 arg7 harg7 arg8 harg8 arg9 harg9 arg10 harg10 arg11 harg11 arg12 harg12 arg13 harg13 X5 X6 ⟨n, hn⟩ p h
        · exact ihp p h
      · by_cases hlt : (y 1).val < 32 * n
        · obtain ⟨p, hp, hy'⟩ := ihc y hlt
          exact ⟨p, List.mem_append_right _ hp, hy'⟩
        · obtain ⟨p, hp, hy'⟩ := t1_cover 𝒱 c bd i arg3 harg3 arg4 harg4 arg5 harg5 arg6 harg6 arg7 harg7 arg8 harg8 arg9 harg9 arg10 harg10 arg11 harg11 arg12 harg12 arg13 harg13 X5 X6 ⟨n, hn⟩ y (by show 32 * n ≤ _; omega) (by show _ < 32 * n + 32; omega)
          exact ⟨p, List.mem_append_left _ hp, hy'⟩
  obtain ⟨hp, hc⟩ := key _ le_rfl
  funext y
  have hy : (y 1).val < 32 * k0_t1_loop.trips := by
    have : (y 1).val < 1024 := (y 1).isLt
    omega
  rw [View.read_writes_apply_eq_canon _ _ _ _ (hc y hy)]
  exact View.canon_apply_of_pieces _ _ hp y (hc y hy)

end Cert.KernelIdeal.Hand
-- ==== Proof.WPay.lean ====
module

public import proofs.«01_k».proof.Proof.XLoop

/-!
The weights' loop: after its 8 trips the buffer of floats holds, for each row and column, the float of the low half of
the code byte (first half of the buffer) and of the high half (second), times the scale of the row's block of eight.
-/

@[expose] public section

noncomputable section

namespace Cert.KernelIdeal.Hand

open Idealize.ShloMosaic Idealize.ShloMosaic.TcCoe
open Idealize.SL Idealize.SL.Sem
open Cert.KernelIdeal.Gen

/-- What the weights' loop leaves, from the block of codes and the block of scales. -/
def WD (C : S1024x1024.Idx → BitVec 8) (S : S128x1024.Idx → EReal) : S2x1024x1024.Idx → EReal := fun y =>
  halfVal (y 0).val (C (ValueIdx.ix2 (n0 := 1024) (n1 := 1024) (y 1) (y 2)))
    * S (ValueIdx.ix2 (n0 := 128) (n1 := 1024)
        ⟨(y 1).val / 8, Nat.div_lt_of_lt_mul (show (y 1).val < 8 * 128 from (y 1).isLt)⟩ (y 2))

theorem select_lt4 {α : Type} (n : ℕ) (hn : n < 8) (x y : α) :
    Scalar.select (IntOp.cmpi CmpIPredicate.slt (BitVec.ofNat 32 n) 4#32) x y = if n < 4 then x else y := by
  interval_cases n <;> rfl

/-- The scales of a strip of 32 rows, from four rows of scale pairs: each row of scales serves eight rows. -/
theorem wScale_apply (a b c d : Vec Ideal S1x2x128 .bf16) (T : ℕ → Fin 128 → EReal)
    (ha : ∀ (p : Fin 2) (l : Fin 128), a (ValueIdx.ix3 0 p l) = T 0 l) (hb : ∀ (p : Fin 2) (l : Fin 128), b (ValueIdx.ix3 0 p l) = T 1 l)
    (hc : ∀ (p : Fin 2) (l : Fin 128), c (ValueIdx.ix3 0 p l) = T 2 l) (hd : ∀ (p : Fin 2) (l : Fin 128), d (ValueIdx.ix3 0 p l) = T 3 l)
    (r : Fin 32) (l : Fin 128) :
    k0_pay70 (F := Ideal) a b c d (ValueIdx.ix2 r l) = T (r.val / 8) l := by
  pointwise [k0_pay70]
  simp only [dite_eq_ite, ite_self]
  have e (p : Fin 2) (v : Vec Ideal S1x2x128 .bf16) (t : Fin 128 → EReal) (h : ∀ (p : Fin 2) (l : Fin 128), v (ValueIdx.ix3 0 p l) = t l) :
      v (ix3 0 p (ValueIdx.ix2 r l 1)) = t l := h p l
  rw [e 0 a _ ha, e 1 a _ ha, e 0 b _ hb, e 1 b _ hb, e 0 c _ hc, e 1 c _ hc, e 0 d _ hd, e 1 d _ hd]
  simp only [ite_self]
  show (if r.val < 16 then Scalar.select (IntOp.cmpi CmpIPredicate.slt (BitVec.ofNat 32 (r.val / 2)) 4#32) (T 0 l) (T 1 l)
    else Scalar.select (IntOp.cmpi CmpIPredicate.slt (BitVec.ofNat 32 ((r.val - 16) / 2)) 4#32) (T 2 l) (T 3 l)) = _
  have hr := r.isLt
  rw [select_lt4 ((r.val - 16) / 2) (by omega)]
  by_cases h : r.val < 16
  · rw [if_pos h, select_lt4 (r.val / 2) (by omega)]
    by_cases h4 : r.val / 2 < 4
    · rw [if_pos h4, show r.val / 8 = 0 by omega]
    · rw [if_neg h4, show r.val / 8 = 1 by omega]
  · rw [if_neg h]
    by_cases h4 : (r.val - 16) / 2 < 4
    · rw [if_pos h4, show r.val / 8 = 2 by omega]
    · rw [if_neg h4, show r.val / 8 = 3 by omega]

theorem pack_apply (v : Vec Ideal S32x128 .fp8e4m3) (r : Fin 32) (p : Fin 2) (l : Fin 128) :
    k0_pay64 (F := Ideal) v (ValueIdx.ix3 r p l) = v (ValueIdx.ix2 r l) := by
  pointwise [k0_pay64]
  rw [ite_self]
  rfl

/-- The floats of a block of codes under a word operation. -/
def wFloat (f : BitVec 32 → BitVec 32) (cv : IVec S32x128 8) : FVec Ideal S32x128 .bf16 :=
  extf .bf16 (bitcastToFloat .fp8e4m3 (bitcast S32x128 8
    (fun i => f (bitcast S8x128 32 cv bitcasts_S32x128_w8_S8x128_w32 i))
    bitcasts_S8x128_w32_S32x128_w8)) bitsLt_fp8e4m3_bf16

/-- A strip's payload. -/
def wStrip (f : BitVec 32 → BitVec 32) (cv : IVec S32x128 8) (a b c d : Vec Ideal S1x2x128 .bf16) :
    FVec Ideal S1x32x128 .bf16 :=
  shapeCast S1x32x128 (mulf (wFloat f cv) (k0_pay70 (F := Ideal) a b c d)) shapeCasts_S32x128_S1x32x128

theorem wStrip_apply (f : BitVec 32 → BitVec 32) (g : BitVec 8 → BitVec 8)
    (hf : ∀ w s, s < 4 → ∀ q, q < 8 → (f w).getLsbD (8 * s + q) = (g (w.extractLsb' (8 * s) 8)).getLsbD q)
    (cv : IVec S32x128 8) (a b c d : Vec Ideal S1x2x128 .bf16) (T : ℕ → Fin 128 → EReal)
    (ha : ∀ (p : Fin 2) (l : Fin 128), a (ValueIdx.ix3 0 p l) = T 0 l) (hb : ∀ (p : Fin 2) (l : Fin 128), b (ValueIdx.ix3 0 p l) = T 1 l)
    (hc : ∀ (p : Fin 2) (l : Fin 128), c (ValueIdx.ix3 0 p l) = T 2 l) (hd : ∀ (p : Fin 2) (l : Fin 128), d (ValueIdx.ix3 0 p l) = T 3 l)
    (u : Fin 1) (r : Fin 32) (l : Fin 128) :
    wStrip f cv a b c d (ValueIdx.ix3 u r l) = Ideal.ofBits .fp8e4m3 (g (cv (ValueIdx.ix2 r l))) * T (r.val / 8) l := by
  unfold wStrip
  have e : shapeCast S1x32x128 (mulf (wFloat f cv) (k0_pay70 (F := Ideal) a b c d)) shapeCasts_S32x128_S1x32x128
      (ValueIdx.ix3 u r l) = mulf (wFloat f cv) (k0_pay70 (F := Ideal) a b c d) (ValueIdx.ix2 r l) := by
    pointwise
    rfl
  refine e.trans ?_
  refine congrArg₂ (fun p q : EReal => p * q) ?_ (wScale_apply a b c d T ha hb hc hd r l)
  unfold wFloat
  show Ideal.ofBits .fp8e4m3 (bitcast S32x128 8 _ _ (ValueIdx.ix2 r l)) = _
  rw [words_bytes f g hf]

section Piece

variable (arg7 : Memref sig .tc .vmem S1024x1024 .i8) (arg8 : Memref sig .tc .vmem S128x1024 .fp8e4m3)
  (arg13 : Memref sig .tc .vmem S128x2x128 .bf16)
  (X7 : BufTy.Contents (Elt Ideal) arg7.view.ty) (X8 : BufTy.Contents (Elt Ideal) arg8.view.ty)

theorem trips2 : k0_t2_loop.trips = 8 := by decide

/-- What the buffer of scale pairs holds in a trip: both members of a pair are the scale. -/
def swG (S : S128x1024.Idx → EReal) (k : Fin k0_t2_loop.trips) : S128x2x128.Idx → EReal := fun y =>
  S (ValueIdx.ix2 (n0 := 128) (n1 := 1024) (y 0)
    ⟨128 * k.val + (y 2).val, by have h1 : (y 2).val < 128 := (y 2).isLt; have h2 : k.val < 8 := lt_of_lt_of_eq k.isLt trips2; omega⟩)

theorem sw_piece (k : Fin k0_t2_loop.trips) (q : ℕ) (inb : ∀ a, (![q, 0, 0] : Fin 3 → ℕ) a + S32x2x128.size a ≤ S128x2x128.size a)
    (o : Fin 2 → ℕ) (ho : o = ![q, 128 * k.val]) (inbo : ∀ a, o a + S32x128.size a ≤ S128x1024.size a)
    (x : (Rect.unit (s := S128x2x128) ![q, 0, 0] S32x2x128.size inb).shape.Idx) :
    k0_pay64 (F := Ideal) (View.readAt (Elt Ideal) arg8.view (Rect.unit (s := S128x1024) o S32x128.size inbo).toLoadRect X8) x
      = swG (arg8.view.read (Elt Ideal) X8) k ((Rect.unit (s := S128x2x128) ![q, 0, 0] S32x2x128.size inb).emb x) := by
  subst ho
  obtain ⟨r, p, l, rfl⟩ : ∃ (r : Fin 32) (p : Fin 2) (l : Fin 128), x = ValueIdx.ix3 r p l := ⟨x 0, x 1, x 2, ValueIdx.eq_ix3 x⟩
  refine (pack_apply _ r p l).trans ?_
  rw [View.readAt_eq_ld]
  refine congrArg (arg8.view.read (Elt Ideal) X8) (funext fun d => ?_)
  match d with
  | ⟨0, _⟩ => rfl
  | ⟨1, _⟩ => exact Fin.ext (by
      show 128 * k.val + 1 * l.val = 128 * k.val + (0 + 1 * l.val)
      omega)

theorem sw_cover_piece (q n : ℕ) (hn : n = q / 32) (hq : q < 128) (y : S128x2x128.Idx) (hy : (y 0).val = q)
    (inb : ∀ a, (![32 * n, 0, 0] : Fin 3 → ℕ) a + S32x2x128.size a ≤ S128x2x128.size a) :
    y ∈ (Rect.unit (s := S128x2x128) ![32 * n, 0, 0] S32x2x128.size inb).set := by
  refine Rect.mem_set_unit.mpr fun a => ?_
  match a with
  | ⟨0, _⟩ => exact ⟨by show 32 * n ≤ (y 0).val; omega, by show (y 0).val < 32 * n + 32; omega⟩
  | ⟨1, _⟩ => exact ⟨Nat.zero_le _, by show (y 1).val < 0 + 2; rw [Nat.zero_add]; exact (y 1).isLt⟩
  | ⟨2, _⟩ => exact ⟨Nat.zero_le _, by show (y 2).val < 0 + 128; rw [Nat.zero_add]; exact (y 2).isLt⟩

theorem sw_pieces (k : Fin k0_t2_loop.trips) : ∀ p ∈ trip_k0_t2.sl.HW_arg13_4 (F := Ideal) arg8 X8 k, ∀ x : p.1.shape.Idx,
    p.2 x = swG (arg8.view.read (Elt Ideal) X8) k (p.1.emb x) := by
  unfold trip_k0_t2.sl.HW_arg13_4
  simp only [List.forall_mem_cons]
  refine ⟨?_, ?_, ?_, ?_, fun p hp => absurd hp List.not_mem_nil⟩
  · exact fun x => sw_piece arg8 X8 k 96 _ (k0_off29 k) (k0_off29_eq k) (k0_off29_inb k) x
  · exact fun x => sw_piece arg8 X8 k 64 _ (k0_off28 k) (k0_off28_eq k) (k0_off28_inb k) x
  · exact fun x => sw_piece arg8 X8 k 32 _ (k0_off27 k) (k0_off27_eq k) (k0_off27_inb k) x
  · exact fun x => sw_piece arg8 X8 k 0 _ (k0_off26 k) (k0_off26_eq k) (k0_off26_inb k) x

theorem sw_cover (k : Fin k0_t2_loop.trips) (y : S128x2x128.Idx) :
    ∃ p ∈ trip_k0_t2.sl.HW_arg13_4 (F := Ideal) arg8 X8 k, y ∈ p.1.set := by
  have hq : (y 0).val < 128 := (y 0).isLt
  unfold trip_k0_t2.sl.HW_arg13_4
  have hn : (y 0).val / 32 < 4 := by omega
  generalize hd : (y 0).val / 32 = n at hn
  interval_cases n
  · exact ⟨_, (List.Mem.tail _ (List.Mem.tail _ (List.Mem.tail _ (List.Mem.head _)))), sw_cover_piece _ 0 hd.symm hq y rfl inb_S128x2x128_S32x2x128_0_0_0⟩
  · exact ⟨_, (List.Mem.tail _ (List.Mem.tail _ (List.Mem.head _))), sw_cover_piece _ 1 hd.symm hq y rfl inb_S128x2x128_S32x2x128_32_0_0⟩
  · exact ⟨_, (List.Mem.tail _ (List.Mem.head _)), sw_cover_piece _ 2 hd.symm hq y rfl inb_S128x2x128_S32x2x128_64_0_0⟩
  · exact ⟨_, (List.Mem.head _), sw_cover_piece _ 3 hd.symm hq y rfl inb_S128x2x128_S32x2x128_96_0_0⟩

/-- A row of scale pairs as a trip reads it back. -/
def swRaw (k : Fin k0_t2_loop.trips) (q : ℕ) (inb : ∀ a, (![q, 0, 0] : Fin 3 → ℕ) a + S1x2x128.size a ≤ S128x2x128.size a) :
    Vec Ideal S1x2x128 .bf16 :=
  arg13.view.readCov (trip_k0_t2.sl.HW_arg13_4 (F := Ideal) arg8 X8 k)
    (Rect.unit (s := S128x2x128) ![q, 0, 0] S1x2x128.size inb).toLoadRect

theorem swRaw_apply (k : Fin k0_t2_loop.trips) (q : ℕ) (hq : q < 128)
    (inb : ∀ a, (![q, 0, 0] : Fin 3 → ℕ) a + S1x2x128.size a ≤ S128x2x128.size a) (p : Fin 2) (l : Fin 128) :
    swRaw arg8 arg13 X8 k q inb (ValueIdx.ix3 0 p l)
      = arg8.view.read (Elt Ideal) X8 (ValueIdx.ix2 (n0 := 128) (n1 := 1024) ⟨q, hq⟩
          ⟨128 * k.val + l.val, by have h2 : k.val < 8 := lt_of_lt_of_eq k.isLt trips2; omega⟩) := by
  unfold swRaw
  refine (congrFun (View.readCov_eq_canon arg13.view (trip_k0_t2.sl.HW_arg13_4 (F := Ideal) arg8 X8 k)
    (Rect.unit (s := S128x2x128) ![q, 0, 0] S1x2x128.size inb).toLoadRect (fun y => sw_cover arg8 X8 k _)) _).trans ?_
  refine (View.canon_apply_of_pieces _ _ (sw_pieces arg8 X8 k) _ (sw_cover arg8 X8 k _)).trans ?_
  unfold swG
  congr 1
  funext d
  match d with
  | ⟨0, _⟩ => exact Fin.ext (by show q + 1 * 0 = q; omega)
  | ⟨1, _⟩ => exact Fin.ext (by show 128 * k.val + (0 + 1 * l.val) = 128 * k.val + l.val; omega)

theorem inb_row (q : ℕ) (hq : q < 128) : ∀ a, (![q, 0, 0] : Fin 3 → ℕ) a + S1x2x128.size a ≤ S128x2x128.size a := by
  intro a
  match a with
  | ⟨0, _⟩ => exact hq
  | ⟨1, _⟩ => exact le_rfl
  | ⟨2, _⟩ => exact le_rfl

/-- One store of a trip writes the target on its rectangle. -/
theorem wPiece (f : BitVec 32 → BitVec 32) (g : BitVec 8 → BitVec 8)
    (hf : ∀ w s, s < 4 → ∀ q, q < 8 → (f w).getLsbD (8 * s + q) = (g (w.extractLsb' (8 * s) 8)).getLsbD q)
    (u : ℕ) (hu : ∀ b, Ideal.ofBits .fp8e4m3 (g b) = halfVal u b) (k : Fin k0_t2_loop.trips) (ρ : ℕ) (hρ : ρ < 32)
    (o : Fin 3 → ℕ) (ho : o = ![u, 32 * ρ, 128 * k.val]) (inb : ∀ a, o a + (![1, 32, 128] : Fin 3 → ℕ) a ≤ S2x1024x1024.size a)
    (oc : Fin 2 → ℕ) (hoc : oc = ![32 * ρ, 128 * k.val]) (inbc : ∀ a, oc a + S32x128.size a ≤ S1024x1024.size a)
    (x : (Rect.unit (s := S2x1024x1024) o ![1, 32, 128] inb).shape.Idx) :
    wStrip f (View.readAt (Elt Ideal) arg7.view (Rect.unit (s := S1024x1024) oc S32x128.size inbc).toLoadRect X7)
        (swRaw arg8 arg13 X8 k (4 * ρ) (inb_row _ (by omega))) (swRaw arg8 arg13 X8 k (4 * ρ + 1) (inb_row _ (by omega)))
        (swRaw arg8 arg13 X8 k (4 * ρ + 2) (inb_row _ (by omega))) (swRaw arg8 arg13 X8 k (4 * ρ + 3) (inb_row _ (by omega))) x
      = WD (arg7.view.read (Elt Ideal) X7) (arg8.view.read (Elt Ideal) X8)
          ((Rect.unit (s := S2x1024x1024) o ![1, 32, 128] inb).emb x) := by
  subst ho hoc
  obtain ⟨a, r, l, rfl⟩ : ∃ (a : Fin 1) (r : Fin 32) (l : Fin 128), x = ValueIdx.ix3 a r l := ⟨x 0, x 1, x 2, ValueIdx.eq_ix3 x⟩
  have hk : k.val < 8 := lt_of_lt_of_eq k.isLt trips2
  let T : ℕ → Fin 128 → EReal := fun q l => if h : q < 4 then arg8.view.read (Elt Ideal) X8
    (ValueIdx.ix2 (n0 := 128) (n1 := 1024) ⟨4 * ρ + q, by omega⟩ ⟨128 * k.val + l.val, by omega⟩) else 0
  have hT (q : ℕ) (h : q < 4) (l : Fin 128) : T q l = arg8.view.read (Elt Ideal) X8
      (ValueIdx.ix2 (n0 := 128) (n1 := 1024) ⟨4 * ρ + q, by omega⟩ ⟨128 * k.val + l.val, by omega⟩) := dif_pos h
  refine (wStrip_apply f g hf _ _ _ _ _ T
    (fun p l => (swRaw_apply arg8 arg13 X8 k (4 * ρ) (by omega) _ p l).trans (hT 0 (by decide) l).symm)
    (fun p l => (swRaw_apply arg8 arg13 X8 k (4 * ρ + 1) (by omega) _ p l).trans (hT 1 (by decide) l).symm)
    (fun p l => (swRaw_apply arg8 arg13 X8 k (4 * ρ + 2) (by omega) _ p l).trans (hT 2 (by decide) l).symm)
    (fun p l => (swRaw_apply arg8 arg13 X8 k (4 * ρ + 3) (by omega) _ p l).trans (hT 3 (by decide) l).symm) a r l).trans ?_
  rw [hu]
  have ha : a.val = 0 := by omega
  rw [hT (r.val / 8) (by omega) l]
  unfold WD
  rw [View.readAt_eq_ld]
  have e0 : (((Rect.unit (s := S2x1024x1024) ![u, 32 * ρ, 128 * k.val] ![1, 32, 128] inb).emb (ValueIdx.ix3 a r l)) 0).val = u := by
    show u + 1 * a.val = u
    omega
  rw [e0]
  congr 2
  · unfold View.ld
    congr 1
    funext d
    match d with
    | ⟨0, _⟩ => rfl
    | ⟨1, _⟩ => rfl
  · funext d
    match d with
    | ⟨0, _⟩ => exact Fin.ext (by
        show 4 * ρ + r.val / 8 = (32 * ρ + 1 * r.val) / 8
        omega)
    | ⟨1, _⟩ => exact Fin.ext (by
        show 128 * k.val + l.val = 128 * k.val + 1 * l.val
        omega)

end Piece

end Cert.KernelIdeal.Hand
-- ==== Proof.WLoop.lean ====
module

public import proofs.«01_k».proof.Proof.WPay

/-!
The weights' loop: after its 8 trips the buffer of floats holds the target of every row and column.
-/

@[expose] public section

noncomputable section

namespace Cert.KernelIdeal.Hand

open Idealize.ShloMosaic Idealize.ShloMosaic.TcCoe
open Idealize.SL Idealize.SL.Sem
open Cert.KernelIdeal.Gen

set_option maxHeartbeats 4000000 in
theorem t2_pieces (𝒱 : Variants) (c : Dev nD) (bd : Option 𝒱.V) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (X7 : BufTy.Contents (Elt Ideal) arg7.view.ty) (X8 : BufTy.Contents (Elt Ideal) arg8.view.ty) (k : Fin k0_t2_loop.trips)
    (f12 : BufTy.Contents (Elt Ideal) arg12.view.ty) (f13 : BufTy.Contents (Elt Ideal) arg13.view.ty) :
    ∀ p ∈ (tripL_k0_t2 (F := Ideal) 𝒱 c bd i arg3 harg3 arg4 harg4 arg5 harg5 arg6 harg6 arg7 harg7 arg8 harg8 arg9 harg9 arg10 harg10 arg11 harg11 arg12 harg12 arg13 harg13 X7 X8 k f12 f13).1,
      ∀ x : p.1.shape.Idx, p.2 x = WD (arg7.view.read (Elt Ideal) X7) (arg8.view.read (Elt Ideal) X8) (p.1.emb x) := by
  unfold tripL_k0_t2
  delta trip_k0_t2
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  · exact fun x => wPiece arg7 arg8 arg13 X7 X8 hiWord hiByte hiWord_byte 1 (fun _ => rfl) k 31 (by decide) (k0_off125 k) (k0_off125_eq k) (k0_off125_inb k) (k0_off123 k) (k0_off123_eq k) (k0_off123_inb k) x
  · exact fun x => wPiece arg7 arg8 arg13 X7 X8 loWord loByte loWord_byte 0 (fun _ => rfl) k 31 (by decide) (k0_off124 k) (k0_off124_eq k) (k0_off124_inb k) (k0_off123 k) (k0_off123_eq k) (k0_off123_inb k) x
  · exact fun x => wPiece arg7 arg8 arg13 X7 X8 hiWord hiByte hiWord_byte 1 (fun _ => rfl) k 30 (by decide) (k0_off122 k) (k0_off122_eq k) (k0_off122_inb k) (k0_off120 k) (k0_off120_eq k) (k0_off120_inb k) x
  · exact fun x => wPiece arg7 arg8 arg13 X7 X8 loWord loByte loWord_byte 0 (fun _ => rfl) k 30 (by decide) (k0_off121 k) (k0_off121_eq k) (k0_off121_inb k) (k0_off120 k) (k0_off120_eq k) (k0_off120_inb k) x
  · exact fun x => wPiece arg7 arg8 arg13 X7 X8 hiWord hiByte hiWord_byte 1 (fun _ => rfl) k 29 (by decide) (k0_off119 k) (k0_off119_eq k) (k0_off119_inb k) (k0_off117 k) (k0_off117_eq k) (k0_off117_inb k) x
  · exact fun x => wPiece arg7 arg8 arg13 X7 X8 loWord loByte loWord_byte 0 (fun _ => rfl) k 29 (by decide) (k0_off118 k) (k0_off118_eq k) (k0_off118_inb k) (k0_off117 k) (k0_off117_eq k) (k0_off117_inb k) x
  · exact fun x => wPiece arg7 arg8 arg13 X7 X8 hiWord hiByte hiWord_byte 1 (fun _ => rfl) k 28 (by decide) (k0_off116 k) (k0_off116_eq k) (k0_off116_inb k) (k0_off114 k) (k0_off114_eq k) (k0_off114_inb k) x
  · exact fun x => wPiece arg7 arg8 arg13 X7 X8 loWord loByte loWord_byte 0 (fun _ => rfl) k 28 (by decide) (k0_off115 k) (k0_off115_eq k) (k0_off115_inb k) (k0_off114 k) (k0_off114_eq k) (k0_off114_inb k) x
  · exact fun x => wPiece arg7 arg8 arg13 X7 X8 hiWord hiByte hiWord_byte 1 (fun _ => rfl) k 27 (by decide) (k0_off113 k) (k0_off113_eq k) (k0_off113_inb k) (k0_off111 k) (k0_off111_eq k) (k0_off111_inb k) x
  · exact fun x => wPiece arg7 arg8 arg13 X7 X8 loWord loByte loWord_byte 0 (fun _ => rfl) k 27 (by decide) (k0_off112 k) (k0_off112_eq k) (k0_off112_inb k) (k0_off111 k) (k0_off111_eq k) (k0_off111_inb k) x
  · exact fun x => wPiece arg7 arg8 arg13 X7 X8 hiWord hiByte hiWord_byte 1 (fun _ => rfl) k 26 (by decide) (k0_off110 k) (k0_off110_eq k) (k0_off110_inb k) (k0_off108 k) (k0_off108_eq k) (k0_off108_inb k) x
  · exact fun x => wPiece arg7 arg8 arg13 X7 X8 loWord loByte loWord_byte 0 (fun _ => rfl) k 26 (by decide) (k0_off109 k) (k0_off109_eq k) (k0_off109_inb k) (k0_off108 k) (k0_off108_eq k) (k0_off108_inb k) x
  · exact fun x => wPiece arg7 arg8 arg13 X7 X8 hiWord hiByte hiWord_byte 1 (fun _ => rfl) k 25 (by decide) (k0_off107 k) (k0_off107_eq k) (k0_off107_inb k) (k0_off105 k) (k0_off105_eq k) (k0_off105_inb k) x
  · exact fun x => wPiece arg7 arg8 arg13 X7 X8 loWord loByte loWord_byte 0 (fun _ => rfl) k 25 (by decide) (k0_off106 k) (k0_off106_eq k) (k0_off106_inb k) (k0_off105 k) (k0_off105_eq k) (k0_off105_inb k) x
  · exact fun x => wPiece arg7 arg8 arg13 X7 X8 hiWord hiByte hiWord_byte 1 (fun _ => rfl) k 24 (by decide) (k0_off104 k) (k0_off104_eq k) (k0_off104_inb k) (k0_off102 k) (k0_off102_eq k) (k0_off102_inb k) x
  · exact fun x => wPiece arg7 arg8 arg13 X7 X8 loWord loByte loWord_byte 0 (fun _ => rfl) k 24 (by decide) (k0_off103 k) (k0_off103_eq k) (k0_off103_inb k) (k0_off102 k) (k0_off102_eq k) (k0_off102_inb k) x
  · exact fun x => wPiece arg7 arg8 arg13 X7 X8 hiWord hiByte hiWord_byte 1 (fun _ => rfl) k 23 (by decide) (k0_off101 k) (k0_off101_eq k) (k0_off101_inb k) (k0_off99 k) (k0_off99_eq k) (k0_off99_inb k) x
  · exact fun x => wPiece arg7 arg8 arg13 X7 X8 loWord loByte loWord_byte 0 (fun _ => rfl) k 23 (by decide) (k0_off100 k) (k0_off100_eq k) (k0_off100_inb k) (k0_off99 k) (k0_off99_eq k) (k0_off99_inb k) x
  · exact fun x => wPiece arg7 arg8 arg13 X7 X8 hiWord hiByte hiWord_byte 1 (fun _ => rfl) k 22 (by decide) (k0_off98 k) (k0_off98_eq k) (k0_off98_inb k) (k0_off96 k) (k0_off96_eq k) (k0_off96_inb k) x
  · exact fun x => wPiece arg7 arg8 arg13 X7 X8 loWord loByte loWord_byte 0 (fun _ => rfl) k 22 (by decide) (k0_off97 k) (k0_off97_eq k) (k0_off97_inb k) (k0_off96 k) (k0_off96_eq k) (k0_off96_inb k) x
  · exact fun x => wPiece arg7 arg8 arg13 X7 X8 hiWord hiByte hiWord_byte 1 (fun _ => rfl) k 21 (by decide) (k0_off95 k) (k0_off95_eq k) (k0_off95_inb k) (k0_off93 k) (k0_off93_eq k) (k0_off93_inb k) x
  · exact fun x => wPiece arg7 arg8 arg13 X7 X8 loWord loByte loWord_byte 0 (fun _ => rfl) k 21 (by decide) (k0_off94 k) (k0_off94_eq k) (k0_off94_inb k) (k0_off93 k) (k0_off93_eq k) (k0_off93_inb k) x
  · exact fun x => wPiece arg7 arg8 arg13 X7 X8 hiWord hiByte hiWord_byte 1 (fun _ => rfl) k 20 (by decide) (k0_off92 k) (k0_off92_eq k) (k0_off92_inb k) (k0_off90 k) (k0_off90_eq k) (k0_off90_inb k) x
  · exact fun x => wPiece arg7 arg8 arg13 X7 X8 loWord loByte loWord_byte 0 (fun _ => rfl) k 20 (by decide) (k0_off91 k) (k0_off91_eq k) (k0_off91_inb k) (k0_off90 k) (k0_off90_eq k) (k0_off90_inb k) x
  · exact fun x => wPiece arg7 arg8 arg13 X7 X8 hiWord hiByte hiWord_byte 1 (fun _ => rfl) k 19 (by decide) (k0_off89 k) (k0_off89_eq k) (k0_off89_inb k) (k0_off87 k) (k0_off87_eq k) (k0_off87_inb k) x
  · exact fun x => wPiece arg7 arg8 arg13 X7 X8 loWord loByte loWord_byte 0 (fun _ => rfl) k 19 (by decide) (k0_off88 k) (k0_off88_eq k) (k0_off88_inb k) (k0_off87 k) (k0_off87_eq k) (k0_off87_inb k) x
  · exact fun x => wPiece arg7 arg8 arg13 X7 X8 hiWord hiByte hiWord_byte 1 (fun _ => rfl) k 18 (by decide) (k0_off86 k) (k0_off86_eq k) (k0_off86_inb k) (k0_off84 k) (k0_off84_eq k) (k0_off84_inb k) x
  · exact fun x => wPiece arg7 arg8 arg13 X7 X8 loWord loByte loWord_byte 0 (fun _ => rfl) k 18 (by decide) (k0_off85 k) (k0_off85_eq k) (k0_off85_inb k) (k0_off84 k) (k0_off84_eq k) (k0_off84_inb k) x
  · exact fun x => wPiece arg7 arg8 arg13 X7 X8 hiWord hiByte hiWord_byte 1 (fun _ => rfl) k 17 (by decide) (k0_off83 k) (k0_off83_eq k) (k0_off83_inb k) (k0_off81 k) (k0_off81_eq k) (k0_off81_inb k) x
  · exact fun x => wPiece arg7 arg8 arg13 X7 X8 loWord loByte loWord_byte 0 (fun _ => rfl) k 17 (by decide) (k0_off82 k) (k0_off82_eq k) (k0_off82_inb k) (k0_off81 k) (k0_off81_eq k) (k0_off81_inb k) x
  · exact fun x => wPiece arg7 arg8 arg13 X7 X8 hiWord hiByte hiWord_byte 1 (fun _ => rfl) k 16 (by decide) (k0_off80 k) (k0_off80_eq k) (k0_off80_inb k) (k0_off78 k) (k0_off78_eq k) (k0_off78_inb k) x
  · exact fun x => wPiece arg7 arg8 arg13 X7 X8 loWord loByte loWord_byte 0 (fun _ => rfl) k 16 (by decide) (k0_off79 k) (k0_off79_eq k) (k0_off79_inb k) (k0_off78 k) (k0_off78_eq k) (k0_off78_inb k) x
  · exact fun x => wPiece arg7 arg8 arg13 X7 X8 hiWord hiByte hiWord_byte 1 (fun _ => rfl) k 15 (by decide) (k0_off77 k) (k0_off77_eq k) (k0_off77_inb k) (k0_off75 k) (k0_off75_eq k) (k0_off75_inb k) x
  · exact fun x => wPiece arg7 arg8 arg13 X7 X8 loWord loByte loWord_byte 0 (fun _ => rfl) k 15 (by decide) (k0_off76 k) (k0_off76_eq k) (k0_off76_inb k) (k0_off75 k) (k0_off75_eq k) (k0_off75_inb k) x
  · exact fun x => wPiece arg7 arg8 arg13 X7 X8 hiWord hiByte hiWord_byte 1 (fun _ => rfl) k 14 (by decide) (k0_off74 k) (k0_off74_eq k) (k0_off74_inb k) (k0_off72 k) (k0_off72_eq k) (k0_off72_inb k) x
  · exact fun x => wPiece arg7 arg8 arg13 X7 X8 loWord loByte loWord_byte 0 (fun _ => rfl) k 14 (by decide) (k0_off73 k) (k0_off73_eq k) (k0_off73_inb k) (k0_off72 k) (k0_off72_eq k) (k0_off72_inb k) x
  · exact fun x => wPiece arg7 arg8 arg13 X7 X8 hiWord hiByte hiWord_byte 1 (fun _ => rfl) k 13 (by decide) (k0_off71 k) (k0_off71_eq k) (k0_off71_inb k) (k0_off69 k) (k0_off69_eq k) (k0_off69_inb k) x
  · exact fun x => wPiece arg7 arg8 arg13 X7 X8 loWord loByte loWord_byte 0 (fun _ => rfl) k 13 (by decide) (k0_off70 k) (k0_off70_eq k) (k0_off70_inb k) (k0_off69 k) (k0_off69_eq k) (k0_off69_inb k) x
  · exact fun x => wPiece arg7 arg8 arg13 X7 X8 hiWord hiByte hiWord_byte 1 (fun _ => rfl) k 12 (by decide) (k0_off68 k) (k0_off68_eq k) (k0_off68_inb k) (k0_off66 k) (k0_off66_eq k) (k0_off66_inb k) x
  · exact fun x => wPiece arg7 arg8 arg13 X7 X8 loWord loByte loWord_byte 0 (fun _ => rfl) k 12 (by decide) (k0_off67 k) (k0_off67_eq k) (k0_off67_inb k) (k0_off66 k) (k0_off66_eq k) (k0_off66_inb k) x
  · exact fun x => wPiece arg7 arg8 arg13 X7 X8 hiWord hiByte hiWord_byte 1 (fun _ => rfl) k 11 (by decide) (k0_off65 k) (k0_off65_eq k) (k0_off65_inb k) (k0_off63 k) (k0_off63_eq k) (k0_off63_inb k) x
  · exact fun x => wPiece arg7 arg8 arg13 X7 X8 loWord loByte loWord_byte 0 (fun _ => rfl) k 11 (by decide) (k0_off64 k) (k0_off64_eq k) (k0_off64_inb k) (k0_off63 k) (k0_off63_eq k) (k0_off63_inb k) x
  · exact fun x => wPiece arg7 arg8 arg13 X7 X8 hiWord hiByte hiWord_byte 1 (fun _ => rfl) k 10 (by decide) (k0_off62 k) (k0_off62_eq k) (k0_off62_inb k) (k0_off60 k) (k0_off60_eq k) (k0_off60_inb k) x
  · exact fun x => wPiece arg7 arg8 arg13 X7 X8 loWord loByte loWord_byte 0 (fun _ => rfl) k 10 (by decide) (k0_off61 k) (k0_off61_eq k) (k0_off61_inb k) (k0_off60 k) (k0_off60_eq k) (k0_off60_inb k) x
  · exact fun x => wPiece arg7 arg8 arg13 X7 X8 hiWord hiByte hiWord_byte 1 (fun _ => rfl) k 9 (by decide) (k0_off59 k) (k0_off59_eq k) (k0_off59_inb k) (k0_off57 k) (k0_off57_eq k) (k0_off57_inb k) x
  · exact fun x => wPiece arg7 arg8 arg13 X7 X8 loWord loByte loWord_byte 0 (fun _ => rfl) k 9 (by decide) (k0_off58 k) (k0_off58_eq k) (k0_off58_inb k) (k0_off57 k) (k0_off57_eq k) (k0_off57_inb k) x
  · exact fun x => wPiece arg7 arg8 arg13 X7 X8 hiWord hiByte hiWord_byte 1 (fun _ => rfl) k 8 (by decide) (k0_off56 k) (k0_off56_eq k) (k0_off56_inb k) (k0_off54 k) (k0_off54_eq k) (k0_off54_inb k) x
  · exact fun x => wPiece arg7 arg8 arg13 X7 X8 loWord loByte loWord_byte 0 (fun _ => rfl) k 8 (by decide) (k0_off55 k) (k0_off55_eq k) (k0_off55_inb k) (k0_off54 k) (k0_off54_eq k) (k0_off54_inb k) x
  · exact fun x => wPiece arg7 arg8 arg13 X7 X8 hiWord hiByte hiWord_byte 1 (fun _ => rfl) k 7 (by decide) (k0_off53 k) (k0_off53_eq k) (k0_off53_inb k) (k0_off51 k) (k0_off51_eq k) (k0_off51_inb k) x
  · exact fun x => wPiece arg7 arg8 arg13 X7 X8 loWord loByte loWord_byte 0 (fun _ => rfl) k 7 (by decide) (k0_off52 k) (k0_off52_eq k) (k0_off52_inb k) (k0_off51 k) (k0_off51_eq k) (k0_off51_inb k) x
  · exact fun x => wPiece arg7 arg8 arg13 X7 X8 hiWord hiByte hiWord_byte 1 (fun _ => rfl) k 6 (by decide) (k0_off50 k) (k0_off50_eq k) (k0_off50_inb k) (k0_off48 k) (k0_off48_eq k) (k0_off48_inb k) x
  · exact fun x => wPiece arg7 arg8 arg13 X7 X8 loWord loByte loWord_byte 0 (fun _ => rfl) k 6 (by decide) (k0_off49 k) (k0_off49_eq k) (k0_off49_inb k) (k0_off48 k) (k0_off48_eq k) (k0_off48_inb k) x
  · exact fun x => wPiece arg7 arg8 arg13 X7 X8 hiWord hiByte hiWord_byte 1 (fun _ => rfl) k 5 (by decide) (k0_off47 k) (k0_off47_eq k) (k0_off47_inb k) (k0_off45 k) (k0_off45_eq k) (k0_off45_inb k) x
  · exact fun x => wPiece arg7 arg8 arg13 X7 X8 loWord loByte loWord_byte 0 (fun _ => rfl) k 5 (by decide) (k0_off46 k) (k0_off46_eq k) (k0_off46_inb k) (k0_off45 k) (k0_off45_eq k) (k0_off45_inb k) x
  · exact fun x => wPiece arg7 arg8 arg13 X7 X8 hiWord hiByte hiWord_byte 1 (fun _ => rfl) k 4 (by decide) (k0_off44 k) (k0_off44_eq k) (k0_off44_inb k) (k0_off42 k) (k0_off42_eq k) (k0_off42_inb k) x
  · exact fun x => wPiece arg7 arg8 arg13 X7 X8 loWord loByte loWord_byte 0 (fun _ => rfl) k 4 (by decide) (k0_off43 k) (k0_off43_eq k) (k0_off43_inb k) (k0_off42 k) (k0_off42_eq k) (k0_off42_inb k) x
  · exact fun x => wPiece arg7 arg8 arg13 X7 X8 hiWord hiByte hiWord_byte 1 (fun _ => rfl) k 3 (by decide) (k0_off41 k) (k0_off41_eq k) (k0_off41_inb k) (k0_off39 k) (k0_off39_eq k) (k0_off39_inb k) x
  · exact fun x => wPiece arg7 arg8 arg13 X7 X8 loWord loByte loWord_byte 0 (fun _ => rfl) k 3 (by decide) (k0_off40 k) (k0_off40_eq k) (k0_off40_inb k) (k0_off39 k) (k0_off39_eq k) (k0_off39_inb k) x
  · exact fun x => wPiece arg7 arg8 arg13 X7 X8 hiWord hiByte hiWord_byte 1 (fun _ => rfl) k 2 (by decide) (k0_off38 k) (k0_off38_eq k) (k0_off38_inb k) (k0_off36 k) (k0_off36_eq k) (k0_off36_inb k) x
  · exact fun x => wPiece arg7 arg8 arg13 X7 X8 loWord loByte loWord_byte 0 (fun _ => rfl) k 2 (by decide) (k0_off37 k) (k0_off37_eq k) (k0_off37_inb k) (k0_off36 k) (k0_off36_eq k) (k0_off36_inb k) x
  · exact fun x => wPiece arg7 arg8 arg13 X7 X8 hiWord hiByte hiWord_byte 1 (fun _ => rfl) k 1 (by decide) (k0_off35 k) (k0_off35_eq k) (k0_off35_inb k) (k0_off33 k) (k0_off33_eq k) (k0_off33_inb k) x
  · exact fun x => wPiece arg7 arg8 arg13 X7 X8 loWord loByte loWord_byte 0 (fun _ => rfl) k 1 (by decide) (k0_off34 k) (k0_off34_eq k) (k0_off34_inb k) (k0_off33 k) (k0_off33_eq k) (k0_off33_inb k) x
  · exact fun x => wPiece arg7 arg8 arg13 X7 X8 hiWord hiByte hiWord_byte 1 (fun _ => rfl) k 0 (by decide) (k0_off32 k) (k0_off32_eq k) (k0_off32_inb k) (k0_off30 k) (k0_off30_eq k) (k0_off30_inb k) x
  · exact fun x => wPiece arg7 arg8 arg13 X7 X8 loWord loByte loWord_byte 0 (fun _ => rfl) k 0 (by decide) (k0_off31 k) (k0_off31_eq k) (k0_off31_inb k) (k0_off30 k) (k0_off30_eq k) (k0_off30_inb k) x

set_option maxHeartbeats 4000000 in
theorem t2_cover (𝒱 : Variants) (c : Dev nD) (bd : Option 𝒱.V) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (X7 : BufTy.Contents (Elt Ideal) arg7.view.ty) (X8 : BufTy.Contents (Elt Ideal) arg8.view.ty) (k : Fin k0_t2_loop.trips)
    (f12 : BufTy.Contents (Elt Ideal) arg12.view.ty) (f13 : BufTy.Contents (Elt Ideal) arg13.view.ty)
    (y : S2x1024x1024.Idx) (h1 : 128 * k.val ≤ (y 2).val) (h2 : (y 2).val < 128 * k.val + 128) :
    ∃ p ∈ (tripL_k0_t2 (F := Ideal) 𝒱 c bd i arg3 harg3 arg4 harg4 arg5 harg5 arg6 harg6 arg7 harg7 arg8 harg8 arg9 harg9 arg10 harg10 arg11 harg11 arg12 harg12 arg13 harg13 X7 X8 k f12 f13).1, y ∈ p.1.set := by
  have b0 : (y 0).val < 2 := (y 0).isLt
  have b1 : (y 1).val < 1024 := (y 1).isLt
  unfold tripL_k0_t2
  delta trip_k0_t2
  dsimp only
  have hc : (y 1).val / 32 < 32 := by omega
  have h0 : (y 0).val = 0 ∨ (y 0).val = 1 := by omega
  generalize hq : (y 1).val / 32 = q at hc
  interval_cases q <;> rcases h0 with h0 | h0
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))))))))))), mem_strip y 0 0 (128 * k.val) _ (k0_off31_eq k) (k0_off31_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))))))))))), mem_strip y 1 0 (128 * k.val) _ (k0_off32_eq k) (k0_off32_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))))))))), mem_strip y 0 32 (128 * k.val) _ (k0_off34_eq k) (k0_off34_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))))))))), mem_strip y 1 32 (128 * k.val) _ (k0_off35_eq k) (k0_off35_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))))))), mem_strip y 0 64 (128 * k.val) _ (k0_off37_eq k) (k0_off37_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))))))), mem_strip y 1 64 (128 * k.val) _ (k0_off38_eq k) (k0_off38_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))))), mem_strip y 0 96 (128 * k.val) _ (k0_off40_eq k) (k0_off40_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))))), mem_strip y 1 96 (128 * k.val) _ (k0_off41_eq k) (k0_off41_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))), mem_strip y 0 128 (128 * k.val) _ (k0_off43_eq k) (k0_off43_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))), mem_strip y 1 128 (128 * k.val) _ (k0_off44_eq k) (k0_off44_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))), mem_strip y 0 160 (128 * k.val) _ (k0_off46_eq k) (k0_off46_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))), mem_strip y 1 160 (128 * k.val) _ (k0_off47_eq k) (k0_off47_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))), mem_strip y 0 192 (128 * k.val) _ (k0_off49_eq k) (k0_off49_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))), mem_strip y 1 192 (128 * k.val) _ (k0_off50_eq k) (k0_off50_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))), mem_strip y 0 224 (128 * k.val) _ (k0_off52_eq k) (k0_off52_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))), mem_strip y 1 224 (128 * k.val) _ (k0_off53_eq k) (k0_off53_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))), mem_strip y 0 256 (128 * k.val) _ (k0_off55_eq k) (k0_off55_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))), mem_strip y 1 256 (128 * k.val) _ (k0_off56_eq k) (k0_off56_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))), mem_strip y 0 288 (128 * k.val) _ (k0_off58_eq k) (k0_off58_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))), mem_strip y 1 288 (128 * k.val) _ (k0_off59_eq k) (k0_off59_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))), mem_strip y 0 320 (128 * k.val) _ (k0_off61_eq k) (k0_off61_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))), mem_strip y 1 320 (128 * k.val) _ (k0_off62_eq k) (k0_off62_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))), mem_strip y 0 352 (128 * k.val) _ (k0_off64_eq k) (k0_off64_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))), mem_strip y 1 352 (128 * k.val) _ (k0_off65_eq k) (k0_off65_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))), mem_strip y 0 384 (128 * k.val) _ (k0_off67_eq k) (k0_off67_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))), mem_strip y 1 384 (128 * k.val) _ (k0_off68_eq k) (k0_off68_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))), mem_strip y 0 416 (128 * k.val) _ (k0_off70_eq k) (k0_off70_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))), mem_strip y 1 416 (128 * k.val) _ (k0_off71_eq k) (k0_off71_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))), mem_strip y 0 448 (128 * k.val) _ (k0_off73_eq k) (k0_off73_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))), mem_strip y 1 448 (128 * k.val) _ (k0_off74_eq k) (k0_off74_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))), mem_strip y 0 480 (128 * k.val) _ (k0_off76_eq k) (k0_off76_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))), mem_strip y 1 480 (128 * k.val) _ (k0_off77_eq k) (k0_off77_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), mem_strip y 0 512 (128 * k.val) _ (k0_off79_eq k) (k0_off79_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), mem_strip y 1 512 (128 * k.val) _ (k0_off80_eq k) (k0_off80_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), mem_strip y 0 544 (128 * k.val) _ (k0_off82_eq k) (k0_off82_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), mem_strip y 1 544 (128 * k.val) _ (k0_off83_eq k) (k0_off83_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), mem_strip y 0 576 (128 * k.val) _ (k0_off85_eq k) (k0_off85_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), mem_strip y 1 576 (128 * k.val) _ (k0_off86_eq k) (k0_off86_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), mem_strip y 0 608 (128 * k.val) _ (k0_off88_eq k) (k0_off88_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), mem_strip y 1 608 (128 * k.val) _ (k0_off89_eq k) (k0_off89_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), mem_strip y 0 640 (128 * k.val) _ (k0_off91_eq k) (k0_off91_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), mem_strip y 1 640 (128 * k.val) _ (k0_off92_eq k) (k0_off92_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), mem_strip y 0 672 (128 * k.val) _ (k0_off94_eq k) (k0_off94_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), mem_strip y 1 672 (128 * k.val) _ (k0_off95_eq k) (k0_off95_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), mem_strip y 0 704 (128 * k.val) _ (k0_off97_eq k) (k0_off97_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), mem_strip y 1 704 (128 * k.val) _ (k0_off98_eq k) (k0_off98_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), mem_strip y 0 736 (128 * k.val) _ (k0_off100_eq k) (k0_off100_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), mem_strip y 1 736 (128 * k.val) _ (k0_off101_eq k) (k0_off101_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem_strip y 0 768 (128 * k.val) _ (k0_off103_eq k) (k0_off103_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_strip y 1 768 (128 * k.val) _ (k0_off104_eq k) (k0_off104_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_strip y 0 800 (128 * k.val) _ (k0_off106_eq k) (k0_off106_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_strip y 1 800 (128 * k.val) _ (k0_off107_eq k) (k0_off107_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_strip y 0 832 (128 * k.val) _ (k0_off109_eq k) (k0_off109_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_strip y 1 832 (128 * k.val) _ (k0_off110_eq k) (k0_off110_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.tail _ (List.Mem.head _)))))))))), mem_strip y 0 864 (128 * k.val) _ (k0_off112_eq k) (k0_off112_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.tail _ (List.Mem.head _))))))))), mem_strip y 1 864 (128 * k.val) _ (k0_off113_eq k) (k0_off113_inb k) h0 ⟨by omega, by omega⟩ ⟨h1, h2⟩⟩
  · exact ⟨_, (List.Mem.tail _ (List.Mem.tail _ (List.Mem.tail _ (List.Mem.tail _ (List.Mem.tail _ (List.Mem.tail _ (List.Mem.tail _ (List.Mem.head _)))))))), mem_strip y 0 896 (128 * k.val) _ (k0_off115_eq k) (k0_off115_inb k) h0 ⟨by omega, by omega⟩ ⟨h1, h2⟩⟩
  · exact ⟨_, (List.Mem.tail _ (List.Mem.tail _ (List.Mem.tail _ (List.Mem.tail _ (List.Mem.tail _ (List.Mem.tail _ (List.Mem.head _))))))), mem_strip y 1 896 (128 * k.val) _ (k0_off116_eq k) (k0_off116_inb k) h0 ⟨by omega, by omega⟩ ⟨h1, h2⟩⟩
  · exact ⟨_, (List.Mem.tail _ (List.Mem.tail _ (List.Mem.tail _ (List.Mem.tail _ (List.Mem.tail _ (List.Mem.head _)))))), mem_strip y 0 928 (128 * k.val) _ (k0_off118_eq k) (k0_off118_inb k) h0 ⟨by omega, by omega⟩ ⟨h1, h2⟩⟩
  · exact ⟨_, (List.Mem.tail _ (List.Mem.tail _ (List.Mem.tail _ (List.Mem.tail _ (List.Mem.head _))))), mem_strip y 1 928 (128 * k.val) _ (k0_off119_eq k) (k0_off119_inb k) h0 ⟨by omega, by omega⟩ ⟨h1, h2⟩⟩
  · exact ⟨_, (List.Mem.tail _ (List.Mem.tail _ (List.Mem.tail _ (List.Mem.head _)))), mem_strip y 0 960 (128 * k.val) _ (k0_off121_eq k) (k0_off121_inb k) h0 ⟨by omega, by omega⟩ ⟨h1, h2⟩⟩
  · exact ⟨_, (List.Mem.tail _ (List.Mem.tail _ (List.Mem.head _))), mem_strip y 1 960 (128 * k.val) _ (k0_off122_eq k) (k0_off122_inb k) h0 ⟨by omega, by omega⟩ ⟨h1, h2⟩⟩
  · exact ⟨_, (List.Mem.tail _ (List.Mem.head _)), mem_strip y 0 992 (128 * k.val) _ (k0_off124_eq k) (k0_off124_inb k) h0 ⟨by omega, by omega⟩ ⟨h1, h2⟩⟩
  · exact ⟨_, (List.Mem.head _), mem_strip y 1 992 (128 * k.val) _ (k0_off125_eq k) (k0_off125_inb k) h0 ⟨by omega, by omega⟩ ⟨h1, h2⟩⟩

/-- The loop's result, read back. -/
theorem t2_read (𝒱 : Variants) (c : Dev nD) (bd : Option 𝒱.V) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (X7 : BufTy.Contents (Elt Ideal) arg7.view.ty) (X8 : BufTy.Contents (Elt Ideal) arg8.view.ty) (G12 : BufTy.Contents (Elt Ideal) arg12.view.ty)
    (G13 : BufTy.Contents (Elt Ideal) arg13.view.ty) :
    arg12.view.read (Elt Ideal) (arg12.view.writes (Elt Ideal) G12 (pb_k0_t2 (F := Ideal) 𝒱 c bd i arg3 harg3 arg4 harg4 arg5 harg5 arg6 harg6 arg7 harg7 arg8 harg8 arg9 harg9 arg10 harg10 arg11 harg11 arg12 harg12 arg13 harg13 X7 X8 G12 G13 k0_t2_loop.trips).1)
      = WD (arg7.view.read (Elt Ideal) X7) (arg8.view.read (Elt Ideal) X8) := by
  have key : ∀ n, n ≤ k0_t2_loop.trips →
      (∀ p ∈ (pb_k0_t2 (F := Ideal) 𝒱 c bd i arg3 harg3 arg4 harg4 arg5 harg5 arg6 harg6 arg7 harg7 arg8 harg8 arg9 harg9 arg10 harg10 arg11 harg11 arg12 harg12 arg13 harg13 X7 X8 G12 G13 n).1,
        ∀ x : p.1.shape.Idx, p.2 x = WD (arg7.view.read (Elt Ideal) X7) (arg8.view.read (Elt Ideal) X8) (p.1.emb x))
      ∧ ∀ y : S2x1024x1024.Idx, (y 2).val < 128 * n →
          ∃ p ∈ (pb_k0_t2 (F := Ideal) 𝒱 c bd i arg3 harg3 arg4 harg4 arg5 harg5 arg6 harg6 arg7 harg7 arg8 harg8 arg9 harg9 arg10 harg10 arg11 harg11 arg12 harg12 arg13 harg13 X7 X8 G12 G13 n).1, y ∈ p.1.set := by
    intro n
    induction n with
    | zero =>
      intro _
      exact ⟨fun p hp => absurd hp List.not_mem_nil, fun y hy => absurd hy (by omega)⟩
    | succ n ih =>
      intro hn
      obtain ⟨ihp, ihc⟩ := ih (by omega)
      rw [pb_k0_t2_succ (F := Ideal) 𝒱 c bd i arg3 harg3 arg4 harg4 arg5 harg5 arg6 harg6 arg7 harg7 arg8 harg8 arg9 harg9 arg10 harg10 arg11 harg11 arg12 harg12 arg13 harg13 X7 X8 G12 G13 ⟨n, hn⟩]
      refine ⟨fun p hp => ?_, fun y hy => ?_⟩
      · rcases List.mem_append.mp hp with h | h
        · exact t2_pieces 𝒱 c bd i arg3 harg3 arg4 harg4 arg5 harg5 arg6 harg6 arg7 harg7 arg8 harg8 arg9 harg9 arg10 harg10 arg11 harg11 arg12 harg12 arg13 harg13 X7 X8 ⟨n, hn⟩ _ _ p h
        · exact ihp p h
      · by_cases hlt : (y 2).val < 128 * n
        · obtain ⟨p, hp, hy'⟩ := ihc y hlt
          exact ⟨p, List.mem_append_right _ hp, hy'⟩
        · obtain ⟨p, hp, hy'⟩ := t2_cover 𝒱 c bd i arg3 harg3 arg4 harg4 arg5 harg5 arg6 harg6 arg7 harg7 arg8 harg8 arg9 harg9 arg10 harg10 arg11 harg11 arg12 harg12 arg13 harg13 X7 X8 ⟨n, hn⟩ _ _ y (by show 128 * n ≤ _; omega) (by show _ < 128 * n + 128; omega)
          exact ⟨p, List.mem_append_left _ hp, hy'⟩
  obtain ⟨hp, hc⟩ := key _ le_rfl
  funext y
  have hy : (y 2).val < 128 * k0_t2_loop.trips := by
    have h : (y 2).val < 1024 := (y 2).isLt
    have := trips2
    omega
  rw [View.read_writes_apply_eq_canon _ _ _ _ (hc y hy)]
  exact View.canon_apply_of_pieces _ _ hp y (hc y hy)

end Cert.KernelIdeal.Hand
-- ==== Proof.VRun.lean ====
module

public import proofs.«01_k».proof.Proof.Gen.KernelIdeal.Frame
public import proofs.«01_k».proof.Proof.Gen.KernelIdeal.Loops
public import Idealize.ShloMosaic.Lib.Pipeline.Frame
public import Idealize.ShloMosaic.Lib.Tactic
public import Idealize.ShloMosaic.PureOps.Ideal
public import proofs.«01_k».proof.Proof.KIFrame
public import proofs.«01_k».proof.Proof.XLoop
public import proofs.«01_k».proof.Proof.WLoop

/-!
The body's run with values: what the accumulator and the output hold after the body, from what the inputs and the
accumulator held before it.
-/

@[expose] public section

set_option maxRecDepth 16384

noncomputable section

namespace Cert.KernelIdeal.Val

open Cert.KernelIdeal Cert.KernelIdeal.Gen
open Cert.KernelIdeal.Hand (cond1 XD WD t1_read t2_read)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

theorem hz2 : (![0, 0] : Fin 2 → ℕ) = fun _ => 0 := funext fun a => by fin_cases a <;> rfl

section Whole

variable {κ : Kind} {sp : Space} {S : Shape} {e : EltTy} (v : View sig κ sp S e) {off : Fin S.rank → ℕ} (h : off = fun _ => 0)
  (inb : ∀ a, off a + S.size a ≤ S.size a)

include h in
/-- A store over the whole shape covers it. -/
theorem cov_whole (w : S.Idx → Elt Ideal e) (L : List (View.Piece (Elt Ideal) S e)) (y : S.Idx) :
    ∃ pc ∈ ((⟨Rect.unit off S.size inb, w⟩ : View.Piece (Elt Ideal) S e) :: L), y ∈ pc.1.set :=
  ⟨_, List.mem_cons_self, View.mem_set_unit_zero h inb y⟩

include h in
/-- What is read after a store over the whole shape. -/
theorem read_whole (f : BufTy.Contents (Elt Ideal) v.ty) (w : S.Idx → Elt Ideal e) (L : List (View.Piece (Elt Ideal) S e)) :
    v.read (Elt Ideal) (v.writes (Elt Ideal) f ((⟨Rect.unit off S.size inb, w⟩ : View.Piece (Elt Ideal) S e) :: L)) = w := by
  rw [View.read_writes_eq_canon v f _ (cov_whole h inb w L)]
  exact View.canon_cons_unit_zero h inb w L

include h in
/-- The same of a load of the whole shape that the stores cover. -/
theorem readCov_whole (inb' : ∀ a, off a + S.size a ≤ S.size a) (w : S.Idx → Elt Ideal e) (L : List (View.Piece (Elt Ideal) S e)) :
    v.readCov ((⟨Rect.unit off S.size inb, w⟩ : View.Piece (Elt Ideal) S e) :: L) (Rect.unit off S.size inb').toLoadRect = w := by
  rw [View.readCov_eq_canon_ld v _ _ (cov_whole h inb w L), View.canon_cons_unit_zero h inb w L]
  exact View.ld_unit_zero h inb' w

include h in
/-- A load of the whole shape. -/
theorem readAt_whole (f : BufTy.Contents (Elt Ideal) v.ty) :
    View.readAt (Elt Ideal) v (Rect.unit off S.size inb).toLoadRect f = v.read (Elt Ideal) f := by
  rw [View.readAt_eq_ld]
  exact View.ld_unit_zero h inb _

end Whole

/-- One of the two halves of a buffer of floats. -/
def halfOf (Z : S2x1024x1024.Idx → EReal) (o : Fin 3 → ℕ) (inb : ∀ a, o a + S1x1024x1024.size a ≤ S2x1024x1024.size a) :
    Vec Ideal S1x1024x1024 .bf16 :=
  View.ld (Val := Elt Ideal) (e' := .bf16) Z (Rect.unit (s := S2x1024x1024) o S1x1024x1024.size inb)

theorem xRead (𝒱 : Variants) (c : Dev nD) (bd : Option 𝒱.V) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (X5 : BufTy.Contents (Elt Ideal) arg5.view.ty) (X6 : BufTy.Contents (Elt Ideal) arg6.view.ty) (G : BufTy.Contents (Elt Ideal) arg11.view.ty)
    {o : Fin 3 → ℕ} (inb : ∀ a, o a + S1x1024x1024.size a ≤ S2x1024x1024.size a) :
    View.readAt (Elt Ideal) arg11.view (Rect.unit (s := S2x1024x1024) o S1x1024x1024.size inb).toLoadRect
        (arg11.view.writes (Elt Ideal) G (pb_k0_t1 (F := Ideal) 𝒱 c bd i arg3 harg3 arg4 harg4 arg5 harg5 arg6 harg6 arg7 harg7 arg8 harg8 arg9 harg9 arg10 harg10 arg11 harg11 arg12 harg12 arg13 harg13 X5 X6 (Scf.trips k0_t1_loop.lb k0_t1_loop.ub k0_t1_loop.st)))
      = halfOf (XD (arg5.view.read (Elt Ideal) X5) (arg6.view.read (Elt Ideal) X6)) o inb := by
  rw [View.readAt_eq_ld]
  exact congrArg (fun Z => halfOf Z o inb) (t1_read 𝒱 c bd i arg3 harg3 arg4 harg4 arg5 harg5 arg6 harg6 arg7 harg7 arg8 harg8 arg9 harg9 arg10 harg10 arg11 harg11 arg12 harg12 arg13 harg13 X5 X6 G)

theorem wRead (𝒱 : Variants) (c : Dev nD) (bd : Option 𝒱.V) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (X7 : BufTy.Contents (Elt Ideal) arg7.view.ty) (X8 : BufTy.Contents (Elt Ideal) arg8.view.ty) (G12 : BufTy.Contents (Elt Ideal) arg12.view.ty) (G13 : BufTy.Contents (Elt Ideal) arg13.view.ty)
    {o : Fin 3 → ℕ} (inb : ∀ a, o a + S1x1024x1024.size a ≤ S2x1024x1024.size a) :
    View.readAt (Elt Ideal) arg12.view (Rect.unit (s := S2x1024x1024) o S1x1024x1024.size inb).toLoadRect
        (arg12.view.writes (Elt Ideal) G12 (pb_k0_t2 (F := Ideal) 𝒱 c bd i arg3 harg3 arg4 harg4 arg5 harg5 arg6 harg6 arg7 harg7 arg8 harg8 arg9 harg9 arg10 harg10 arg11 harg11 arg12 harg12 arg13 harg13 X7 X8 G12 G13 (Scf.trips k0_t2_loop.lb k0_t2_loop.ub k0_t2_loop.st)).1)
      = halfOf (WD (arg7.view.read (Elt Ideal) X7) (arg8.view.read (Elt Ideal) X8)) o inb := by
  rw [View.readAt_eq_ld]
  exact congrArg (fun Z => halfOf Z o inb) (t2_read 𝒱 c bd i arg3 harg3 arg4 harg4 arg5 harg5 arg6 harg6 arg7 harg7 arg8 harg8 arg9 harg9 arg10 harg10 arg11 harg11 arg12 harg12 arg13 harg13 X7 X8 G12 G13)

/-- The accumulator after the body: what it held (or zero) plus the product of the low halves, plus that of the high halves. -/
def stepV (a : Vec Ideal S1024x1024 .f32) (x5 : Vec Ideal S1024x1024 .i8) (x6 : Vec Ideal S1024x128 .fp8e4m3)
    (x7 : Vec Ideal S1024x1024 .i8) (x8 : Vec Ideal S128x1024 .fp8e4m3) : Vec Ideal S1024x1024 .f32 :=
  k0_pay1 (F := Ideal) (k0_pay303 (F := Ideal) a (halfOf (XD x5 x6) ![0, 0, 0] inb_S2x1024x1024_S1x1024x1024_0_0_0)
      (halfOf (WD x7 x8) ![0, 0, 0] inb_S2x1024x1024_S1x1024x1024_0_0_0))
    (halfOf (XD x5 x6) ![1, 0, 0] inb_S2x1024x1024_S1x1024x1024_1_0_0) (halfOf (WD x7 x8) ![1, 0, 0] inb_S2x1024x1024_S1x1024x1024_1_0_0)

/-- The output block the body stores at the last step. -/
def outV (i : grid0.Coords) (h2 : k0_cond2 i = 1#1) (x3 : Vec Ideal S4 .f32) (x4 : Vec Ideal S1 .f32) (a : Vec Ideal S1024x1024 .f32) :
    Vec Ideal S1024x1024 .bf16 :=
  k0_pay2 (F := Ideal) (x3 ((Rect.unit (s := S4) (k0_off126 i) S1.size (k0_off126_inb i h2)).emb (Shape.Idx.first (show 0 < S1.numel by decide)))) a
    (x4 ((Rect.unit (s := S1) ![0] S1.size inb_S1_S1_0).emb (Shape.Idx.first (show 0 < S1.numel by decide))))

theorem cong_pay1 {a a' : FVec Ideal S1024x1024 .f32} {b b' c c' : Vec Ideal S1x1024x1024 .bf16} (ha : a = a') (hb : b = b') (hc : c = c') :
    k0_pay1 (F := Ideal) a b c = k0_pay1 (F := Ideal) a' b' c' := by subst ha hb hc; rfl

theorem cong_pay303 {a a' : Vec Ideal S1024x1024 .f32} {b b' c c' : Vec Ideal S1x1024x1024 .bf16} (ha : a = a') (hb : b = b') (hc : c = c') :
    k0_pay303 (F := Ideal) a b c = k0_pay303 (F := Ideal) a' b' c' := by subst ha hb hc; rfl

theorem cong_pay2 {g g' w w' : EReal} {a a' : Vec Ideal S1024x1024 .f32} (hg : g = g') (ha : a = a') (hw : w = w') :
    k0_pay2 (F := Ideal) g a w = k0_pay2 (F := Ideal) g' a' w' := by subst hg ha hw; rfl

/-- The payload of the body's last store to the accumulator, whatever was stored before it. -/
theorem pay_step (𝒱 : Variants) (c : Dev nD) (bd : Option 𝒱.V) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole)
    (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (G11 : BufTy.Contents (Elt Ideal) arg11.view.ty) (G12 : BufTy.Contents (Elt Ideal) arg12.view.ty) (G13 : BufTy.Contents (Elt Ideal) arg13.view.ty)
    (a a0 : Vec Ideal S1024x1024 .f32) (ha : a = a0) (L : List (View.Piece (Elt Ideal) S1024x1024 .f32)) :
    k0_pay1 (F := Ideal)
      (arg10.view.readCov ((⟨(Rect.unit (s := S1024x1024) ![0, 0] S1024x1024.size inb_S1024x1024_S1024x1024_0_0), k0_pay303 (F := Ideal) a
        (View.readAt (Elt Ideal) arg11.view (Rect.unit (s := S2x1024x1024) ![0, 0, 0] S1x1024x1024.size inb_S2x1024x1024_S1x1024x1024_0_0_0).toLoadRect
        (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 arg13 harg13 X5 X6 (Scf.trips k0_t1_loop.lb k0_t1_loop.ub k0_t1_loop.st))))
        (View.readAt (Elt Ideal) arg12.view (Rect.unit (s := S2x1024x1024) ![0, 0, 0] S1x1024x1024.size inb_S2x1024x1024_S1x1024x1024_0_0_0).toLoadRect
        (arg12.view.writes (Elt Ideal) G12 ((pb_k0_t2 (F := Ideal) 𝒱 c bd i arg3 harg3 arg4 harg4 arg5 harg5 arg6 harg6 arg7 harg7 arg8 harg8 arg9 harg9 arg10 harg10 arg11 harg11 arg12 harg12 arg13 harg13 X7 X8 G12 G13 (Scf.trips k0_t2_loop.lb k0_t2_loop.ub k0_t2_loop.st)).1)))⟩ : View.Piece (Elt Ideal) S1024x1024 .f32) :: L) (Rect.unit (s := S1024x1024) ![0, 0] S1024x1024.size inb_S1024x1024_S1024x1024_0_0).toLoadRect)
      (View.readAt (Elt Ideal) arg11.view (Rect.unit (s := S2x1024x1024) ![1, 0, 0] S1x1024x1024.size inb_S2x1024x1024_S1x1024x1024_1_0_0).toLoadRect
        (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 arg13 harg13 X5 X6 (Scf.trips k0_t1_loop.lb k0_t1_loop.ub k0_t1_loop.st))))
      (View.readAt (Elt Ideal) arg12.view (Rect.unit (s := S2x1024x1024) ![1, 0, 0] S1x1024x1024.size inb_S2x1024x1024_S1x1024x1024_1_0_0).toLoadRect
        (arg12.view.writes (Elt Ideal) G12 ((pb_k0_t2 (F := Ideal) 𝒱 c bd i arg3 harg3 arg4 harg4 arg5 harg5 arg6 harg6 arg7 harg7 arg8 harg8 arg9 harg9 arg10 harg10 arg11 harg11 arg12 harg12 arg13 harg13 X7 X8 G12 G13 (Scf.trips k0_t2_loop.lb k0_t2_loop.ub k0_t2_loop.st)).1)))
    = stepV a0 (arg5.view.read (Elt Ideal) X5) (arg6.view.read (Elt Ideal) X6) (arg7.view.read (Elt Ideal) X7) (arg8.view.read (Elt Ideal) X8) := by
  subst ha
  unfold stepV
  refine cong_pay1 ?_ ?_ ?_
  · refine (readCov_whole _ hz2 _ _ _ _).trans ?_
    refine cong_pay303 rfl ?_ ?_
    · exact xRead 𝒱 c bd i arg3 harg3 arg4 harg4 arg5 harg5 arg6 harg6 arg7 harg7 arg8 harg8 arg9 harg9 arg10 harg10 arg11 harg11 arg12 harg12 arg13 harg13 X5 X6 G11 _
    · exact wRead 𝒱 c bd i arg3 harg3 arg4 harg4 arg5 harg5 arg6 harg6 arg7 harg7 arg8 harg8 arg9 harg9 arg10 harg10 arg11 harg11 arg12 harg12 arg13 harg13 X7 X8 G12 G13 _
  · exact xRead 𝒱 c bd i arg3 harg3 arg4 harg4 arg5 harg5 arg6 harg6 arg7 harg7 arg8 harg8 arg9 harg9 arg10 harg10 arg11 harg11 arg12 harg12 arg13 harg13 X5 X6 G11 _
  · exact wRead 𝒱 c bd i arg3 harg3 arg4 harg4 arg5 harg5 arg6 harg6 arg7 harg7 arg8 harg8 arg9 harg9 arg10 harg10 arg11 harg11 arg12 harg12 arg13 harg13 X7 X8 G12 G13 _

set_option maxHeartbeats 4000000 in
/-- The body, clearing the accumulator and storing the output. -/
theorem runAL (c : Dev nD) (E : Set ℕ) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (x9 : Vec Ideal S1024x1024 .bf16) (x10 : Vec Ideal S1024x1024 .f32) (x3 : Vec Ideal S4 .f32) (x4 : Vec Ideal S1 .f32) (x5 : Vec Ideal S1024x1024 .i8) (x6 : Vec Ideal S1024x128 .fp8e4m3) (x7 : Vec Ideal S1024x1024 .i8) (x8 : Vec Ideal S128x1024 .fp8e4m3) (K : PUnit → sProp 𝕄) (h1 : cond1 i = 1#1) (h2 : k0_cond2 i = 1#1) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outV i h2 x3 x4 (stepV (k0_pay299 (F := Ideal)) x5 x6 x7 x8)) ∗ owns (c : Thread nD τ) arg10 fullShare (stepV (k0_pay299 (F := Ideal)) x5 x6 x7 x8) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) E (cc0__body i arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part61_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf3 hf4 hf5 hf6 hf7 hf8 hf9 hf10
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro
    sl_unfold_words
    refine (read_whole _ hz2 _ _ _ _).trans ?_
    unfold outV
    refine cong_pay2 ?_ ?_ ?_
    · exact congrFun (View.readAt_eq_ld _ _ _) _
    · refine (readCov_whole _ hz2 _ _ _ _).trans ?_
      exact pay_step Variants.none c none i arg3 harg3 arg4 harg4 arg5 harg5 arg6 harg6 arg7 harg7 arg8 harg8 arg9 harg9 arg10 harg10 arg11 harg11 arg12 harg12 arg13 harg13 f5 f6 f7 f8 f11 f12 f13 _ _ (readCov_whole _ hz2 _ _ _ _) _
    · exact congrFun (View.readAt_eq_ld _ _ _) _
  isplitl [H10]
  · iexists _; isplitr; swap; · iexact H10
    ipureintro
    sl_unfold_words
    refine (read_whole _ hz2 _ _ _ _).trans ?_
    exact pay_step Variants.none c none i arg3 harg3 arg4 harg4 arg5 harg5 arg6 harg6 arg7 harg7 arg8 harg8 arg9 harg9 arg10 harg10 arg11 harg11 arg12 harg12 arg13 harg13 f5 f6 f7 f8 f11 f12 f13 _ _ (readCov_whole _ hz2 _ _ _ _) _
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 4000000 in
/-- The body, clearing the accumulator and not storing the output. -/
theorem runAM (c : Dev nD) (E : Set ℕ) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (x9 : Vec Ideal S1024x1024 .bf16) (x10 : Vec Ideal S1024x1024 .f32) (x3 : Vec Ideal S4 .f32) (x4 : Vec Ideal S1 .f32) (x5 : Vec Ideal S1024x1024 .i8) (x6 : Vec Ideal S1024x128 .fp8e4m3) (x7 : Vec Ideal S1024x1024 .i8) (x8 : Vec Ideal S128x1024 .fp8e4m3) (K : PUnit → sProp 𝕄) (h1 : cond1 i = 1#1) (h2 : ¬k0_cond2 i = 1#1) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (stepV (k0_pay299 (F := Ideal)) x5 x6 x7 x8) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) E (cc0__body i arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part61_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf3 hf4 hf5 hf6 hf7 hf8 hf9 hf10
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    sl_unfold_words
    refine (read_whole _ hz2 _ _ _ _).trans ?_
    exact pay_step Variants.none c none i arg3 harg3 arg4 harg4 arg5 harg5 arg6 harg6 arg7 harg7 arg8 harg8 arg9 harg9 arg10 harg10 arg11 harg11 arg12 harg12 arg13 harg13 f5 f6 f7 f8 f11 f12 f13 _ _ (readCov_whole _ hz2 _ _ _ _) _
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 4000000 in
/-- The body, continuing the accumulator and storing the output. -/
theorem runBL (c : Dev nD) (E : Set ℕ) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (x9 : Vec Ideal S1024x1024 .bf16) (x10 : Vec Ideal S1024x1024 .f32) (x3 : Vec Ideal S4 .f32) (x4 : Vec Ideal S1 .f32) (x5 : Vec Ideal S1024x1024 .i8) (x6 : Vec Ideal S1024x128 .fp8e4m3) (x7 : Vec Ideal S1024x1024 .i8) (x8 : Vec Ideal S128x1024 .fp8e4m3) (K : PUnit → sProp 𝕄) (h1 : ¬cond1 i = 1#1) (h2 : k0_cond2 i = 1#1) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outV i h2 x3 x4 (stepV x10 x5 x6 x7 x8)) ∗ owns (c : Thread nD τ) arg10 fullShare (stepV x10 x5 x6 x7 x8) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) E (cc0__body i arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part61_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf3 hf4 hf5 hf6 hf7 hf8 hf9 hf10
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro
    sl_unfold_words
    refine (read_whole _ hz2 _ _ _ _).trans ?_
    unfold outV
    refine cong_pay2 ?_ ?_ ?_
    · exact congrFun (View.readAt_eq_ld _ _ _) _
    · refine (readCov_whole _ hz2 _ _ _ _).trans ?_
      exact pay_step Variants.none c none i arg3 harg3 arg4 harg4 arg5 harg5 arg6 harg6 arg7 harg7 arg8 harg8 arg9 harg9 arg10 harg10 arg11 harg11 arg12 harg12 arg13 harg13 f5 f6 f7 f8 f11 f12 f13 _ _ (readAt_whole _ hz2 _ _) _
    · exact congrFun (View.readAt_eq_ld _ _ _) _
  isplitl [H10]
  · iexists _; isplitr; swap; · iexact H10
    ipureintro
    sl_unfold_words
    refine (read_whole _ hz2 _ _ _ _).trans ?_
    exact pay_step Variants.none c none i arg3 harg3 arg4 harg4 arg5 harg5 arg6 harg6 arg7 harg7 arg8 harg8 arg9 harg9 arg10 harg10 arg11 harg11 arg12 harg12 arg13 harg13 f5 f6 f7 f8 f11 f12 f13 _ _ (readAt_whole _ hz2 _ _) _
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 4000000 in
/-- The body, continuing the accumulator and not storing the output. -/
theorem runBM (c : Dev nD) (E : Set ℕ) (i : grid0.Coords) (arg3 : Memref sig .tc .smem S4 .f32) (harg3 : arg3.IsWhole) (arg4 : Memref sig .tc .smem S1 .f32) (harg4 : arg4.IsWhole) (arg5 : Memref sig .tc .vmem S1024x1024 .i8) (harg5 : arg5.IsWhole) (arg6 : Memref sig .tc .vmem S1024x128 .fp8e4m3) (harg6 : arg6.IsWhole) (arg7 : Memref sig .tc .vmem S1024x1024 .i8) (harg7 : arg7.IsWhole) (arg8 : Memref sig .tc .vmem S128x1024 .fp8e4m3) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S2x1024x1024 .bf16) (harg11 : arg11.IsWhole) (arg12 : Memref sig .tc .vmem S2x1024x1024 .bf16) (harg12 : arg12.IsWhole) (arg13 : Memref sig .tc .vmem S128x2x128 .bf16) (harg13 : arg13.IsWhole) (x9 : Vec Ideal S1024x1024 .bf16) (x10 : Vec Ideal S1024x1024 .f32) (x3 : Vec Ideal S4 .f32) (x4 : Vec Ideal S1 .f32) (x5 : Vec Ideal S1024x1024 .i8) (x6 : Vec Ideal S1024x128 .fp8e4m3) (x7 : Vec Ideal S1024x1024 .i8) (x8 : Vec Ideal S128x1024 .fp8e4m3) (K : PUnit → sProp 𝕄) (h1 : ¬cond1 i = 1#1) (h2 : ¬k0_cond2 i = 1#1) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (stepV x10 x5 x6 x7 x8) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) E (cc0__body i arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part61_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf3 hf4 hf5 hf6 hf7 hf8 hf9 hf10
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    sl_unfold_words
    refine (read_whole _ hz2 _ _ _ _).trans ?_
    exact pay_step Variants.none c none i arg3 harg3 arg4 harg4 arg5 harg5 arg6 harg6 arg7 harg7 arg8 harg8 arg9 harg9 arg10 harg10 arg11 harg11 arg12 harg12 arg13 harg13 f5 f6 f7 f8 f11 f12 f13 _ _ (readAt_whole _ hz2 _ _) _
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.KernelIdeal.Val
-- ==== Proof.VFrame.lean ====
module

public import proofs.«01_k».proof.Proof.VRun

/-!
The kernel's run with values: the accumulator tracked from point to point, the output array after the last point.
-/

@[expose] public section

set_option maxRecDepth 16384

noncomputable section

namespace Cert.KernelIdeal.Val

open Cert.KernelIdeal Cert.KernelIdeal.Gen
open Cert.KernelIdeal.Hand (cond1 XD WD)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-! ## The accumulator -/

/-- What the accumulator holds after point `n` if it held `a` when the products were added. -/
def stepN (c : Dev nD) (n : ℕ) (a : Vec Ideal S1024x1024 .f32) : Vec Ideal S1024x1024 .f32 :=
  if h : n < cfg0.N then stepV a (iblk m c 2 ⟨n, h⟩) (iblk m c 3 ⟨n, h⟩) (iblk m c 4 ⟨n, h⟩) (iblk m c 5 ⟨n, h⟩) else a

/-- What the accumulator holds after point `n`: cleared at every eighth point. -/
def accA (c : Dev nD) : ℕ → Vec Ideal S1024x1024 .f32
  | 0 => stepN m c 0 (k0_pay299 (F := Ideal))
  | n + 1 => stepN m c (n + 1) (if (n + 1) % 8 = 0 then k0_pay299 (F := Ideal) else accA c n)

theorem accA_clear (c : Dev nD) (t : Fin cfg0.N) (h : t.val % 8 = 0) :
    accA m c t.val = stepV (k0_pay299 (F := Ideal)) (iblk m c 2 t) (iblk m c 3 t) (iblk m c 4 t) (iblk m c 5 t) := by
  obtain ⟨n, hn⟩ := t
  have hs : accA m c n = stepN m c n (k0_pay299 (F := Ideal)) := by
    cases n with
    | zero => rfl
    | succ k => show stepN m c (k + 1) _ = _; rw [if_pos h]
  show accA m c n = _
  rw [hs]; unfold stepN; rw [dif_pos hn]

theorem accA_step (c : Dev nD) (t : Fin cfg0.N) (h : t.val % 8 ≠ 0) :
    accA m c t.val = stepV (accA m c (t.val - 1)) (iblk m c 2 t) (iblk m c 3 t) (iblk m c 4 t) (iblk m c 5 t) := by
  obtain ⟨n, hn⟩ := t
  have hs : accA m c n = stepN m c n (accA m c (n - 1)) := by
    cases n with
    | zero => exact absurd rfl h
    | succ k => show stepN m c (k + 1) _ = _; rw [if_neg h]; rfl
  show accA m c n = _
  rw [hs]; unfold stepN; rw [dif_pos hn]

/-- The accumulator between points: at anything where the next point clears it, else what the last point left. -/
def accS (c : Dev nD) (n : ℕ) : sProp 𝕄 :=
  if n % 8 = 0 then iprop(∃ d, owns (c : Thread nD τ) (Memref.whole cc0_scratch0) fullShare d)
  else owns (c : Thread nD τ) (Memref.whole cc0_scratch0) fullShare (accA m c (n - 1))

/-- What is kept between points. -/
def phiS (c : Dev nD) (n : ℕ) : sProp 𝕄 :=
  iprop((accS m c n ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d))
      ∗ (∃ r, prngReg c r))

/-- The output block a point leaves, where it stores one. -/
def outAt (c : Dev nD) (t : Fin cfg0.N) : Vec Ideal S1024x1024 .bf16 :=
  if h : k0_cond2 (grid0.coords t) = 1#1 then outV (grid0.coords t) h (iblk m c 0 t) (iblk m c 1 t) (accA m c t.val)
  else Pipeline.Dat.unnamed (cfg := cfg0) 6 t

/-- The proof data on core `c`. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := phiS m c t.val
  q _ := fullShare
  owed _ := 0

theorem A_eqV (c : Dev nD) (w : Fin cfg0.W) : (datsV m 0 c).A w = V m c (Pipeline.arrRef spec0 w) := by
  dsimp only [datsV]

theorem Phi_castSucc (c : Dev nD) (t : Fin cfg0.N) : (datsV m 0 c).Φ t.castSucc = phiS m c t.val := by
  dsimp only [datsV]; exact congrArg (phiS m c) (Fin.val_castSucc t)
theorem Phi_succ (c : Dev nD) (t : Fin cfg0.N) : (datsV m 0 c).Φ t.succ = phiS m c (t.val + 1) := by
  dsimp only [datsV]; exact congrArg (phiS m c) (Fin.val_succ t)
theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = iblk m c 5 t := by dsimp only [datsV]
theorem afterV_6 (c : Dev nD) (t : Fin cfg0.N) : (datsV m 0 c).after 6 t = outAt m c t := by dsimp only [datsV]
theorem beforeV_0 (c : Dev nD) (t : Fin cfg0.N) (d) : (datsV m 0 c).before 0 t d = iblk m c 0 t :=
  before0_0_of m (datsV m 0 c) (A_eqV m c 0) (afterV_0 m c) t d
theorem beforeV_1 (c : Dev nD) (t : Fin cfg0.N) (d) : (datsV m 0 c).before 1 t d = iblk m c 1 t :=
  before0_1_of m (datsV m 0 c) (A_eqV m c 1) (afterV_1 m c) t d
theorem beforeV_2 (c : Dev nD) (t : Fin cfg0.N) (d) : (datsV m 0 c).before 2 t d = iblk m c 2 t :=
  before0_2_of m (datsV m 0 c) (A_eqV m c 2) (afterV_2 m c) t d
theorem beforeV_3 (c : Dev nD) (t : Fin cfg0.N) (d) : (datsV m 0 c).before 3 t d = iblk m c 3 t :=
  before0_3_of m (datsV m 0 c) (A_eqV m c 3) (afterV_3 m c) t d
theorem beforeV_4 (c : Dev nD) (t : Fin cfg0.N) (d) : (datsV m 0 c).before 4 t d = iblk m c 4 t :=
  before0_4_of m (datsV m 0 c) (A_eqV m c 4) (afterV_4 m c) t d
theorem beforeV_5 (c : Dev nD) (t : Fin cfg0.N) (d) : (datsV m 0 c).before 5 t d = iblk m c 5 t :=
  before0_5_of m (datsV m 0 c) (A_eqV m c 5) (afterV_5 m c) t d

/-! ## The points -/

theorem cond1_iff : ∀ t : Fin grid0.N, cond1 (grid0.coords t) = 1#1 ↔ t.val % 8 = 0 := by decide +kernel
theorem cond2_iff : ∀ t : Fin grid0.N, k0_cond2 (grid0.coords t) = 1#1 ↔ t.val % 8 = 7 := by decide +kernel

theorem idle6 (t : Fin cfg0.N) : cfg0.idle 6 (cfg0.grid.coords t) = !(k0_cond2 (grid0.coords t) == 1#1) := rfl
theorem idle6_true (t : Fin cfg0.N) (h : t.val % 8 ≠ 7) : cfg0.idle 6 (cfg0.grid.coords t) = true := by
  rw [idle6, Bool.not_eq_true', beq_eq_false_iff_ne]; exact fun e => h ((cond2_iff t).mp e)
theorem idle6_false (t : Fin cfg0.N) (h : t.val % 8 = 7) : cfg0.idle 6 (cfg0.grid.coords t) = false := by
  rw [idle6, Bool.not_eq_false', beq_iff_eq]; exact (cond2_iff t).mpr h
theorem flush6_false (t : Fin cfg0.N) (h : t.val % 8 ≠ 7) : (cfg0.win 6).flush t = false := by
  rw [Bool.eq_false_iff]; exact fun e => h ((flush0_6 t).mp e)

/-! ## The body's obligation -/

def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d)))

/-- What the body leaves in the output's buffer: where nothing is stored nor written back, what was there. -/
def outPostV (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((datsV m 0 c).before 6 t d))
    | true => owns (c : Thread nD τ) (st0_6 t) fullShare ((datsV m 0 c).after 6 t)
  | false => owns (c : Thread nD τ) (st0_6 t) fullShare ((datsV m 0 c).after 6 t)

theorem outPostV_idle (c : Dev nD) (t : Fin cfg0.N) (h7 : t.val % 8 ≠ 7) :
    outPostV m c t = iprop(∃ d, owns (c : Thread nD τ) (st0_6 t) fullShare ((datsV m 0 c).before 6 t d)) := by
  unfold outPostV; rw [idle6_true t h7, flush6_false t h7]

theorem outPostV_last (c : Dev nD) (t : Fin cfg0.N) (h7 : t.val % 8 = 7) :
    outPostV m c t = owns (c : Thread nD τ) (st0_6 t) fullShare (outAt m c t) := by
  unfold outPostV; rw [idle6_false t h7, afterV_6]

def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ owns (c : Thread nD τ) (st0_2 t) fullShare ((datsV m 0 c).after 2 t)
    ∗ owns (c : Thread nD τ) (st0_3 t) fullShare ((datsV m 0 c).after 3 t)
    ∗ owns (c : Thread nD τ) (st0_4 t) fullShare ((datsV m 0 c).after 4 t)
    ∗ owns (c : Thread nD τ) (st0_5 t) fullShare ((datsV m 0 c).after 5 t)
    ∗ outPostV m c t)

/-- The body at a point that clears the accumulator. -/
theorem sound_bodyAM (c : Dev nD) (t : Fin cfg0.N) (h0 : t.val % 8 = 0) :
    bodyPreV m c t ⊢ wp frame (wpE (defs₀ (F := Ideal)) Variants.none c none) Set.univ (bodyAt0 t) (fun _ => bodyPostV m c t) := by
  have h7 : t.val % 8 ≠ 7 := by omega
  unfold bodyPreV bodyPostV bodyAt0
  rw [outPostV_idle m c t h7]
  simp only [beforeV_0, beforeV_1, beforeV_2, beforeV_3, beforeV_4, beforeV_5]
  have hS : accS m c (t.val + 1) = owns (c : Thread nD τ) (Memref.whole cc0_scratch0) fullShare (accA m c t.val) := if_neg (by omega)
  have hP : accS m c t.val = iprop(∃ d, owns (c : Thread nD τ) (Memref.whole cc0_scratch0) fullShare d) := if_pos h0
  rw [Phi_castSucc, Phi_succ, show (datsV m 0 c).owesAt () t.succ = (datsV m 0 c).owesAt () t.castSucc from rfl,
    afterV_0, afterV_1, afterV_2, afterV_3, afterV_4, afterV_5]
  unfold phiS
  rw [hS, hP]
  rw [accA_clear m c t h0]
  iintro ⟨⟨⟨⟨%d10, S0⟩, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (runAM c Set.univ _ _ _ _ _ _ _ _ _ _ _ _ _ _ _ _ _ _ _ _ _ _ _ ((datsV m 0 c).before 6 t d6) d10 (iblk m c 0 t) (iblk m c 1 t) (iblk m c 2 t) (iblk m c 3 t) (iblk m c 4 t) (iblk m c 5 t) _ ((cond1_iff t).mpr h0) (fun e => by have := (cond2_iff t).mp e; omega))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at a point that adds to the accumulator. -/
theorem sound_bodyBM (c : Dev nD) (t : Fin cfg0.N) (h0 : t.val % 8 ≠ 0) (h7 : t.val % 8 ≠ 7) :
    bodyPreV m c t ⊢ wp frame (wpE (defs₀ (F := Ideal)) Variants.none c none) Set.univ (bodyAt0 t) (fun _ => bodyPostV m c t) := by
  unfold bodyPreV bodyPostV bodyAt0
  rw [outPostV_idle m c t h7]
  simp only [beforeV_0, beforeV_1, beforeV_2, beforeV_3, beforeV_4, beforeV_5]
  have hS : accS m c (t.val + 1) = owns (c : Thread nD τ) (Memref.whole cc0_scratch0) fullShare (accA m c t.val) := if_neg (by omega)
  have hP : accS m c t.val = owns (c : Thread nD τ) (Memref.whole cc0_scratch0) fullShare (accA m c (t.val - 1)) := if_neg h0
  rw [Phi_castSucc, Phi_succ, show (datsV m 0 c).owesAt () t.succ = (datsV m 0 c).owesAt () t.castSucc from rfl,
    afterV_0, afterV_1, afterV_2, afterV_3, afterV_4, afterV_5]
  unfold phiS
  rw [hS, hP]
  rw [accA_step m c t h0]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (runBM c Set.univ _ _ _ _ _ _ _ _ _ _ _ _ _ _ _ _ _ _ _ _ _ _ _ ((datsV m 0 c).before 6 t d6) (accA m c (t.val - 1)) (iblk m c 0 t) (iblk m c 1 t) (iblk m c 2 t) (iblk m c 3 t) (iblk m c 4 t) (iblk m c 5 t) _ (fun e => h0 ((cond1_iff t).mp e)) (fun e => h7 ((cond2_iff t).mp e)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at a point that adds to the accumulator and stores the output. -/
theorem sound_bodyBL (c : Dev nD) (t : Fin cfg0.N) (h7 : t.val % 8 = 7) :
    bodyPreV m c t ⊢ wp frame (wpE (defs₀ (F := Ideal)) Variants.none c none) Set.univ (bodyAt0 t) (fun _ => bodyPostV m c t) := by
  have h0 : t.val % 8 ≠ 0 := by omega
  unfold bodyPreV bodyPostV bodyAt0
  rw [outPostV_last m c t h7]
  simp only [beforeV_0, beforeV_1, beforeV_2, beforeV_3, beforeV_4, beforeV_5]
  have hS : accS m c (t.val + 1) = iprop(∃ d, owns (c : Thread nD τ) (Memref.whole cc0_scratch0) fullShare d) := if_pos (by omega)
  have hO : outAt m c t = outV (grid0.coords t) ((cond2_iff t).mpr h7) (iblk m c 0 t) (iblk m c 1 t) (accA m c t.val) := dif_pos ((cond2_iff t).mpr h7)
  have hP : accS m c t.val = owns (c : Thread nD τ) (Memref.whole cc0_scratch0) fullShare (accA m c (t.val - 1)) := if_neg h0
  rw [Phi_castSucc, Phi_succ, show (datsV m 0 c).owesAt () t.succ = (datsV m 0 c).owesAt () t.castSucc from rfl,
    afterV_0, afterV_1, afterV_2, afterV_3, afterV_4, afterV_5]
  unfold phiS
  rw [hS, hP, hO]
  rw [accA_step m c t h0]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (runBL c Set.univ _ _ _ _ _ _ _ _ _ _ _ _ _ _ _ _ _ _ _ _ _ _ _ ((datsV m 0 c).before 6 t d6) (accA m c (t.val - 1)) (iblk m c 0 t) (iblk m c 1 t) (iblk m c 2 t) (iblk m c 3 t) (iblk m c 4 t) (iblk m c 5 t) _ (fun e => h0 ((cond1_iff t).mp e)) ((cond2_iff t).mpr h7))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexists _; iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_bodyV (c : Dev nD) (t : Fin cfg0.N) :
    bodyPreV m c t ⊢ wp frame (wpE (defs₀ (F := Ideal)) Variants.none c none) Set.univ (bodyAt0 t) (fun _ => bodyPostV m c t) := by
  by_cases h0 : t.val % 8 = 0
  · exact sound_bodyAM m c t h0
  by_cases h7 : t.val % 8 = 7
  · exact sound_bodyBL m c t h7
  · exact sound_bodyBM m c t h0 h7

/-- The library's body obligation. -/
theorem body_obligationV (c : Dev nD) : BodyObligation (datsV m 0 c) (defs₀ (F := Ideal)) Variants.none () Set.univ := fun t => by
  rw [bigSep_W0, bigSep_W0, Cert.KernelIdeal.Hand.defs₀_row]
  exact triple_restated (sound_bodyV m c t) rfl .rfl fun _ => .rfl

/-! ## The run -/

theorem phi_in (c : Dev nD) : Pipeline.ΦA spec0 c ⊢ (datsV m 0 c).Φ 0 := by
  dsimp only [datsV]
  rw [Cert.KernelIdeal.Hand.PhiA_eq]
  unfold phiS accS
  exact .rfl

theorem phi_out (c : Dev nD) : (datsV m 0 c).Φ (Fin.last cfg0.N) ⊢ Pipeline.ΦA spec0 c := by
  dsimp only [datsV]
  rw [Cert.KernelIdeal.Hand.PhiA_eq]
  unfold phiS accS
  rw [if_pos (show (Fin.last cfg0.N).val % 8 = 0 from by rw [Fin.val_last]; exact congrArg (· % 8) N_0)]

set_option backward.isDefEq.respectTransparency.types false in
set_option maxHeartbeats 800000 in
/-- The launch, with every array at what the proof data says. -/
theorem run_mainV : θ_run defs (onTc (τ := τ) (main (F := Ideal))) (s₀ m ρ)
    (fun r => Pipeline.FramePost cfgs (datsV m) 0 (V m) r) :=
  Pipeline.θ_run_frame_track (Q' := _) cfgs (datsV m) (0 : Fin 1) launch0 defs₀ Variants.none m ρ main
    (hbody := fun c => (body_obligationV m c).loose) (hshare := fun c => (datsV m 0 c).share_full fun _ => rfl)
    (howed := fun _ _ => rfl) (V := V m) (hmain := hmain m Variants.none) (hA := A_eqV m) (hin := phi_in m) (hout := phi_out m)

end Cert.KernelIdeal.Val

end
-- ==== Proof.RNib.lean ====
module

public import proofs.«01_k».proof.Proof.XLoop

/-!
The sixteen four-bit codes: the value the reference selects for a code, and the float the kernel makes of it.
-/

@[expose] public section

set_option maxRecDepth 16384

noncomputable section

namespace Cert.Val

open Idealize.ShloMosaic
open Cert.KernelIdeal.Hand (loByte hiByte loVal hiVal halfVal)

/-- Whether a bit of a code is set. -/
def bitSet (u k : BitVec 32) : BitVec 1 := IntOp.cmpi .ne (IntOp.andi u k) 0#32

/-- The magnitude the reference selects for a code. -/
def refMag (u : BitVec 32) : EReal :=
  if bitSet u 4#32 = 1#1 then
    (if bitSet u 2#32 = 1#1 then
      (if bitSet u 1#32 = 1#1 then Ideal.ofBits .bf16 0x40C0#16 else Ideal.ofBits .bf16 0x4080#16)
      else (if bitSet u 1#32 = 1#1 then Ideal.ofBits .bf16 0x4040#16 else Ideal.ofBits .bf16 0x4000#16))
  else
    (if bitSet u 2#32 = 1#1 then
      (if bitSet u 1#32 = 1#1 then Ideal.ofBits .bf16 0x3FC0#16 else Ideal.ofBits .bf16 0x3F80#16)
      else (if bitSet u 1#32 = 1#1 then Ideal.ofBits .bf16 0x3F00#16 else Ideal.ofBits .bf16 0x0000#16))

/-- The value the reference selects for a code. -/
def refVal (u : BitVec 32) : EReal := if bitSet u 8#32 = 1#1 then Ideal.ofBits .bf16 0x0000#16 - refMag u else refMag u

/-- A code's value as a real number. -/
def codeVal (n : Fin 16) : ℝ :=
  (![0, 1/2, 1, 3/2, 2, 3, 4, 6, 0, -(1/2), -1, -(3/2), -2, -3, -4, -6] : Fin 16 → ℝ) n

theorem c_zero : Ideal.ofBits .bf16 0x0000#16 = 0 := by simp [Ideal.ofBits, Ideal.ieee]
theorem c_half : Ideal.ofBits .bf16 0x3F00#16 = ((1/2 : ℝ) : EReal) := by simp [Ideal.ofBits, Ideal.ieee, -EReal.coe_mul]; norm_num
theorem c_one : Ideal.ofBits .bf16 0x3F80#16 = ((1 : ℝ) : EReal) := by simp [Ideal.ofBits, Ideal.ieee, -EReal.coe_mul]; norm_num
theorem c_three_halves : Ideal.ofBits .bf16 0x3FC0#16 = ((3/2 : ℝ) : EReal) := by simp [Ideal.ofBits, Ideal.ieee, -EReal.coe_mul]; norm_num
theorem c_two : Ideal.ofBits .bf16 0x4000#16 = ((2 : ℝ) : EReal) := by simp [Ideal.ofBits, Ideal.ieee, -EReal.coe_mul]; norm_num
theorem c_three : Ideal.ofBits .bf16 0x4040#16 = ((3 : ℝ) : EReal) := by simp [Ideal.ofBits, Ideal.ieee, -EReal.coe_mul]; norm_num
theorem c_four : Ideal.ofBits .bf16 0x4080#16 = ((4 : ℝ) : EReal) := by simp [Ideal.ofBits, Ideal.ieee, -EReal.coe_mul]; norm_num
theorem c_six : Ideal.ofBits .bf16 0x40C0#16 = ((6 : ℝ) : EReal) := by simp [Ideal.ofBits, Ideal.ieee, -EReal.coe_mul]; norm_num
theorem c_4096 : Ideal.ofBits .bf16 0x4580#16 = ((4096 : ℝ) : EReal) := by simp [Ideal.ofBits, Ideal.ieee, -EReal.coe_mul]; norm_num

theorem refVal_nib (n : Fin 16) : refVal (BitVec.ofNat 32 n.val) = ((codeVal n : ℝ) : EReal) := by
  unfold refVal refMag
  rw [c_zero, c_half, c_one, c_three_halves, c_two, c_three, c_four, c_six]
  fin_cases n <;> simp [bitSet, IntOp.cmpi, IntOp.andi, codeVal]

theorem loVal_nib (n : Fin 16) : Ideal.ofBits .fp8e4m3 (loByte (BitVec.ofNat 8 n.val)) = ((codeVal n / 64 : ℝ) : EReal) := by
  fin_cases n <;> simp [loByte, codeVal, Ideal.ofBits, Ideal.e4m3fn, -EReal.coe_mul, -EReal.coe_neg] <;> norm_num

theorem lo_code : ∀ i : Fin 256, IntOp.andi (BitVec.zeroExtend 32 (BitVec.ofFin i : BitVec 8)) 15#32 = BitVec.ofNat 32 (i.val % 16)
    ∧ loByte (BitVec.ofFin i) = loByte (BitVec.ofNat 8 (i.val % 16)) := by decide +kernel

theorem hi_code : ∀ i : Fin 256, IntOp.shrsi .vector (BitVec.zeroExtend 32 (BitVec.ofFin i : BitVec 8)) 4#32 = BitVec.ofNat 32 (i.val / 16)
    ∧ hiByte (BitVec.ofFin i) = loByte (BitVec.ofNat 8 (i.val / 16)) := by decide +kernel

/-- The value the reference selects for one half of a byte. -/
def refHalf (u : ℕ) (b : BitVec 8) : EReal :=
  if u = 0 then refVal (IntOp.andi (BitVec.zeroExtend 32 b) 15#32) else refVal (IntOp.shrsi .vector (BitVec.zeroExtend 32 b) 4#32)

/-- Both read one real number from a half byte, the kernel's float being one sixty-fourth of it. -/
theorem half_real (u : ℕ) (b : BitVec 8) : ∃ v : ℝ, refHalf u b = (v : EReal) ∧ halfVal u b = ((v / 64 : ℝ) : EReal) := by
  obtain ⟨i⟩ := b
  unfold refHalf halfVal loVal hiVal
  by_cases h : u = 0
  · have hn : i.val % 16 < 16 := Nat.mod_lt _ (by decide)
    refine ⟨codeVal ⟨i.val % 16, hn⟩, ?_, ?_⟩
    · rw [if_pos h, (lo_code i).1]; exact refVal_nib ⟨i.val % 16, hn⟩
    · rw [if_pos h, (lo_code i).2]; exact loVal_nib ⟨i.val % 16, hn⟩
  · have hn : i.val / 16 < 16 := by have := i.isLt; omega
    refine ⟨codeVal ⟨i.val / 16, hn⟩, ?_, ?_⟩
    · rw [if_neg h, (hi_code i).1]; exact refVal_nib ⟨i.val / 16, hn⟩
    · rw [if_neg h, (hi_code i).2]; exact loVal_nib ⟨i.val / 16, hn⟩

/-- One product of the contraction: the reference's is the kernel's. -/
theorem term_eq (u : ℕ) (x w : BitVec 8) (s t : EReal) :
    (refHalf u x * s) * (refHalf u w * t) = (halfVal u x * (s * Ideal.ofBits .bf16 0x4580#16)) * (halfVal u w * t) := by
  obtain ⟨a, ha, ha'⟩ := half_real u x
  obtain ⟨b, hb, hb'⟩ := half_real u w
  rw [ha, ha', hb, hb', c_4096]
  have h : (a : EReal) * (b : EReal) = ((a / 64 : ℝ) : EReal) * ((b / 64 : ℝ) : EReal) * ((4096 : ℝ) : EReal) := by
    rw [← EReal.coe_mul, ← EReal.coe_mul, ← EReal.coe_mul]
    congr 1; ring
  rw [mul_mul_mul_comm, h]
  ac_rfl

end Cert.Val
end
-- ==== Proof.RVal.lean ====
module

public import proofs.«01_k».proof.Proof.Gen.ReferenceIdeal.Frame
public import Idealize.ShloMosaic.Lib.Pointwise.Tactic
public import proofs.«01_k».proof.Proof.RNib

/-!
The reference's result, element by element.
-/

@[expose] public section

set_option maxRecDepth 16384

noncomputable section

namespace Cert.ReferenceIdeal.Hand

open Cert.ReferenceIdeal Cert.ReferenceIdeal.Gen
open Cert.Val (refHalf)
open Idealize.ShloMosaic

/-- The scale group of a position of the contraction. -/
def grp (k : Fin 8192) : Fin 1024 := ⟨k.val / 8, by have := k.isLt; omega⟩

/-- One of the contraction's positions within its group. -/
def inGrp (k : Fin 8192) : Fin 8 := ⟨k.val % 8, by omega⟩

theorem xScale (A : FVec Ideal S2x4096x8192 .bf16) (v7 : FVec Ideal S2x4096x1024x1 .bf16) (b : Fin 2) (s : Fin 4096) (k : Fin 8192) :
    shapeCast S2x4096x8192 (mulf (shapeCast S2x4096x1024x8 A shapeCasts_S2x4096x8192_S2x4096x1024x8)
      (broadcastTo S2x4096x1024x8 v7 broadcasts_S2x4096x1024x1_S2x4096x1024x8)) shapeCasts_S2x4096x1024x8_S2x4096x8192 (ValueIdx.ix3 b s k)
    = A (ValueIdx.ix3 b s k) * v7 (ValueIdx.ix4 b s (grp k) 0) := by
  have hk : k.val / 8 * 8 + k.val % 8 = k.val := by omega
  refine (shapeCast_apply _ _ (ValueIdx.ix3 b s k) (ValueIdx.ix4 b s (grp k) (inGrp k)) ?_).trans ?_
  · rw [Shape.rowMajor_val_four, Shape.rowMajor_val_three]
    show ((b.val * 4096 + s.val) * 1024 + k.val / 8) * 8 + k.val % 8 = (b.val * 4096 + s.val) * 8192 + k.val
    omega
  · refine congrArg₂ (fun a b : EReal => a * b) ?_ ?_
    · refine shapeCast_apply _ _ _ (ValueIdx.ix3 b s k) ?_
      rw [Shape.rowMajor_val_four, Shape.rowMajor_val_three]
      show (b.val * 4096 + s.val) * 8192 + k.val = ((b.val * 4096 + s.val) * 1024 + k.val / 8) * 8 + k.val % 8
      omega
    · refine broadcastTo_apply _ _ _ (ValueIdx.ix4 b s (grp k) 0) ?_
      intro a
      match a with
      | ⟨0, _⟩ => rfl
      | ⟨1, _⟩ => rfl
      | ⟨2, _⟩ => rfl
      | ⟨3, _⟩ => rfl

theorem wScale (A : FVec Ideal S8192x13312 .bf16) (v9 : FVec Ideal S1024x1x13312 .bf16) (k : Fin 8192) (n : Fin 13312) :
    shapeCast S8192x13312 (mulf (shapeCast S1024x8x13312 A shapeCasts_S8192x13312_S1024x8x13312)
      (broadcastTo S1024x8x13312 v9 broadcasts_S1024x1x13312_S1024x8x13312)) shapeCasts_S1024x8x13312_S8192x13312 (ValueIdx.ix2 k n)
    = A (ValueIdx.ix2 k n) * v9 (ValueIdx.ix3 (grp k) 0 n) := by
  have hk : k.val / 8 * 8 + k.val % 8 = k.val := by omega
  refine (shapeCast_apply _ _ (ValueIdx.ix2 k n) (ValueIdx.ix3 (grp k) (inGrp k) n) ?_).trans ?_
  · rw [Shape.rowMajor_val_three, Shape.rowMajor_val_two]
    show (k.val / 8 * 8 + k.val % 8) * 13312 + n.val = k.val * 13312 + n.val
    omega
  · refine congrArg₂ (fun a b : EReal => a * b) ?_ ?_
    · refine shapeCast_apply _ _ _ (ValueIdx.ix2 k n) ?_
      rw [Shape.rowMajor_val_three, Shape.rowMajor_val_two]
      show k.val * 13312 + n.val = (k.val / 8 * 8 + k.val % 8) * 13312 + n.val
      omega
    · refine broadcastTo_apply _ _ _ (ValueIdx.ix3 (grp k) 0 n) ?_
      intro a
      match a with
      | ⟨0, _⟩ => rfl
      | ⟨1, _⟩ => rfl
      | ⟨2, _⟩ => rfl

/-- The scale row of one segment. -/
def segOf (s : Fin 4096) : Fin 4 := ⟨s.val / 1024, by have := s.isLt; omega⟩

theorem gRow (g : Vec Ideal S4 .f32) (b : Fin 2) (s : Fin 4096) (n : Fin 13312) :
    broadcastTo S2x4096x13312 (shapeCast S1x4096x1 (shapeCast S4096 (broadcastTo S4x1024 (shapeCast S4x1 g shapeCasts_S4_S4x1)
      broadcasts_S4x1_S4x1024) shapeCasts_S4x1024_S4096) shapeCasts_S4096_S1x4096x1) broadcasts_S1x4096x1_S2x4096x13312 (ValueIdx.ix3 b s n)
    = g (ValueIdx.ix1 (segOf s)) := by
  refine (broadcastTo_apply _ _ _ (ValueIdx.ix3 (0 : Fin 1) s (0 : Fin 1)) ?_).trans ?_
  · intro a
    match a with
    | ⟨0, _⟩ => rfl
    | ⟨1, _⟩ => rfl
    | ⟨2, _⟩ => rfl
  refine (shapeCast_apply _ _ _ (ValueIdx.ix1 s) ?_).trans ?_
  · rw [Shape.rowMajor_val_three, Shape.rowMajor_val_one]
    show s.val = (0 * 4096 + s.val) * 1 + 0
    omega
  refine (shapeCast_apply _ _ _ (ValueIdx.ix2 (segOf s) (⟨s.val % 1024, Nat.mod_lt _ (by decide)⟩ : Fin 1024)) ?_).trans ?_
  · rw [Shape.rowMajor_val_two, Shape.rowMajor_val_one]
    show s.val / 1024 * 1024 + s.val % 1024 = s.val
    omega
  refine (broadcastTo_apply _ _ _ (ValueIdx.ix2 (segOf s) (0 : Fin 1)) ?_).trans ?_
  · intro a
    match a with
    | ⟨0, _⟩ => rfl
    | ⟨1, _⟩ => rfl
  refine shapeCast_apply _ _ _ (ValueIdx.ix1 (segOf s)) ?_
  rw [Shape.rowMajor_val_two, Shape.rowMajor_val_one]
  show (segOf s).val = (segOf s).val * 1 + 0
  omega

theorem dotR (A : FVec Ideal S2x4096x8192 .bf16) (C : FVec Ideal S8192x13312 .bf16) (b : Fin 2) (s : Fin 4096) (n : Fin 13312) :
    matmul dot_S2x4096x8192_S8192x13312_S2x4096x13312_2_0_01_1_n_n none A C (constant S2x4096x13312 .f32 0x00000000#32) (ValueIdx.ix3 b s n)
      = ∑ k : Fin 8192, A (ValueIdx.ix3 b s k) * C (ValueIdx.ix2 k n) := by
  pointwise
  simp only [ix2_eq_valueIdx, ix3_eq_valueIdx]

/-! ## The halves -/

theorem xLo (x0 : Vec Ideal S2x4096x8192 .i8) (v7 : FVec Ideal S2x4096x1024x1 .bf16) (b : Fin 2) (s : Fin 4096) (k : Fin 8192) :
    k0_pay12 (F := Ideal) v7 (k0_pay7 (F := Ideal) x0) (k0_pay8 (F := Ideal) x0) (k0_pay9 (F := Ideal) x0) (k0_pay10 (F := Ideal) x0) (k0_pay11 (F := Ideal) x0)
      (Scalar.ofBits .bf16 0x3FC0#16) (Scalar.ofBits .bf16 0x3F80#16) (ValueIdx.ix3 b s k)
    = refHalf 0 (x0 (ValueIdx.ix3 b s k)) * v7 (ValueIdx.ix4 b s (grp k) 0) :=
  (xScale _ v7 b s k).trans (congrArg (· * v7 (ValueIdx.ix4 b s (grp k) 0)) rfl)

theorem xHi (x0 : Vec Ideal S2x4096x8192 .i8) (v7 : FVec Ideal S2x4096x1024x1 .bf16) (b : Fin 2) (s : Fin 4096) (k : Fin 8192) :
    k0_pay21 (F := Ideal) v7 (k0_pay14 (k0_pay2 (F := Ideal) x0)) (k0_pay15 (k0_pay2 (F := Ideal) x0)) (k0_pay16 (k0_pay2 (F := Ideal) x0))
      (k0_pay17 (k0_pay2 (F := Ideal) x0)) (k0_pay18 (F := Ideal) (k0_pay2 (F := Ideal) x0)) (k0_pay19 (F := Ideal)) (k0_pay20 (F := Ideal)) (ValueIdx.ix3 b s k)
    = refHalf 1 (x0 (ValueIdx.ix3 b s k)) * v7 (ValueIdx.ix4 b s (grp k) 0) :=
  (xScale _ v7 b s k).trans (congrArg (· * v7 (ValueIdx.ix4 b s (grp k) 0)) rfl)

theorem wLo (x3 : Vec Ideal S8192x13312 .i8) (v9 : FVec Ideal S1024x1x13312 .bf16) (k : Fin 8192) (n : Fin 13312) :
    k0_pay29 (F := Ideal) v9 (k0_pay23 (k0_pay3 (F := Ideal) x3)) (k0_pay24 (k0_pay3 (F := Ideal) x3)) (k0_pay25 (k0_pay3 (F := Ideal) x3))
      (k0_pay26 (k0_pay3 (F := Ideal) x3)) (k0_pay27 (F := Ideal) (k0_pay3 (F := Ideal) x3)) (k0_pay28 (F := Ideal) (k0_pay3 (F := Ideal) x3))
      (Scalar.ofBits .bf16 0x3F00#16) (ValueIdx.ix2 k n)
    = refHalf 0 (x3 (ValueIdx.ix2 k n)) * v9 (ValueIdx.ix3 (grp k) 0 n) :=
  (wScale _ v9 k n).trans (congrArg (· * v9 (ValueIdx.ix3 (grp k) 0 n)) rfl)

theorem v7_apply (x1 : Vec Ideal S2x4096x1024 .fp8e4m3) (b : Fin 2) (s : Fin 4096) (q : Fin 1024) :
    k0_pay4 (F := Ideal) x1 (ValueIdx.ix4 b s q 0) = x1 (ValueIdx.ix3 b s q) := by
  unfold k0_pay4
  refine shapeCast_apply _ _ _ (ValueIdx.ix3 b s q) ?_
  rw [Shape.rowMajor_val_four, Shape.rowMajor_val_three]
  show (b.val * 4096 + s.val) * 1024 + q.val = ((b.val * 4096 + s.val) * 1024 + q.val) * 1 + 0
  omega

theorem v9_apply (x4 : Vec Ideal S1024x13312 .fp8e4m3) (q : Fin 1024) (n : Fin 13312) :
    k0_pay5 (F := Ideal) x4 (ValueIdx.ix3 q 0 n) = x4 (ValueIdx.ix2 q n) := by
  unfold k0_pay5
  refine shapeCast_apply _ _ _ (ValueIdx.ix2 q n) ?_
  rw [Shape.rowMajor_val_three, Shape.rowMajor_val_two]
  show q.val * 13312 + n.val = (q.val * 1 + 0) * 13312 + n.val
  omega

/-! ## The result -/

/-- One product of the reference's contraction. -/
def refTerm (x0 : Vec Ideal S2x4096x8192 .i8) (x1 : Vec Ideal S2x4096x1024 .fp8e4m3) (x3 : Vec Ideal S8192x13312 .i8) (x4 : Vec Ideal S1024x13312 .fp8e4m3)
    (b : Fin 2) (s : Fin 4096) (n : Fin 13312) (u : ℕ) (k : Fin 8192) : EReal :=
  (refHalf u (x0 (ValueIdx.ix3 b s k)) * x1 (ValueIdx.ix3 b s (grp k))) * (refHalf u (x3 (ValueIdx.ix2 k n)) * x4 (ValueIdx.ix2 (grp k) n))

/-- The reference's result at one position. -/
def refOut (x0 : Vec Ideal S2x4096x8192 .i8) (x1 : Vec Ideal S2x4096x1024 .fp8e4m3) (x2 : Vec Ideal S4 .f32) (x3 : Vec Ideal S8192x13312 .i8)
    (x4 : Vec Ideal S1024x13312 .fp8e4m3) (x5 : Vec Ideal S1 .f32) (b : Fin 2) (s : Fin 4096) (n : Fin 13312) : EReal :=
  ((∑ k : Fin 8192, refTerm x0 x1 x3 x4 b s n 0 k + ∑ k : Fin 8192, refTerm x0 x1 x3 x4 b s n 1 k) * x2 (ValueIdx.ix1 (segOf s))) * x5 (ValueIdx.ix1 0)

theorem pay1_apply (x0 : Vec Ideal S2x4096x8192 .i8) (x1 : Vec Ideal S2x4096x1024 .fp8e4m3) (x2 : Vec Ideal S4 .f32) (x3 : Vec Ideal S8192x13312 .i8)
    (x4 : Vec Ideal S1024x13312 .fp8e4m3) (x5 : Vec Ideal S1 .f32) (r : Fin 8192) (n : Fin 13312) :
    k0_pay1 (F := Ideal) (k0_pay5 (F := Ideal) x4)
      (k0_pay12 (F := Ideal) (k0_pay4 (F := Ideal) x1) (k0_pay7 (F := Ideal) x0) (k0_pay8 (F := Ideal) x0) (k0_pay9 (F := Ideal) x0) (k0_pay10 (F := Ideal) x0) (k0_pay11 (F := Ideal) x0)
        (Scalar.ofBits .bf16 0x3FC0#16) (Scalar.ofBits .bf16 0x3F80#16))
      (k0_pay21 (F := Ideal) (k0_pay4 (F := Ideal) x1) (k0_pay14 (k0_pay2 (F := Ideal) x0)) (k0_pay15 (k0_pay2 (F := Ideal) x0)) (k0_pay16 (k0_pay2 (F := Ideal) x0))
        (k0_pay17 (k0_pay2 (F := Ideal) x0)) (k0_pay18 (F := Ideal) (k0_pay2 (F := Ideal) x0)) (k0_pay19 (F := Ideal)) (k0_pay20 (F := Ideal)))
      (k0_pay29 (F := Ideal) (k0_pay5 (F := Ideal) x4) (k0_pay23 (k0_pay3 (F := Ideal) x3)) (k0_pay24 (k0_pay3 (F := Ideal) x3)) (k0_pay25 (k0_pay3 (F := Ideal) x3))
        (k0_pay26 (k0_pay3 (F := Ideal) x3)) (k0_pay27 (F := Ideal) (k0_pay3 (F := Ideal) x3)) (k0_pay28 (F := Ideal) (k0_pay3 (F := Ideal) x3))
        (Scalar.ofBits .bf16 0x3F00#16))
      (k0_pay31 (k0_pay3 (F := Ideal) x3)) (k0_pay32 (k0_pay3 (F := Ideal) x3)) (k0_pay33 (k0_pay3 (F := Ideal) x3)) (k0_pay34 (k0_pay3 (F := Ideal) x3))
      (k0_pay35 (F := Ideal) (k0_pay3 (F := Ideal) x3)) (k0_pay36 (F := Ideal) (k0_pay3 (F := Ideal) x3)) (Scalar.ofBits .bf16 0x0000#16) (k0_pay37 (F := Ideal)) x2 x5 (ValueIdx.ix2 r n)
    = refOut x0 x1 x2 x3 x4 x5 ⟨r.val / 4096, by have := r.isLt; omega⟩ ⟨r.val % 4096, Nat.mod_lt _ (by decide)⟩ n := by
  unfold k0_pay1 refOut
  refine (shapeCast_apply _ _ _ (ValueIdx.ix3 (⟨r.val / 4096, by have := r.isLt; omega⟩ : Fin 2) (⟨r.val % 4096, Nat.mod_lt _ (by decide)⟩ : Fin 4096) n) ?_).trans ?_
  · rw [Shape.rowMajor_val_three, Shape.rowMajor_val_two]
    show (r.val / 4096 * 4096 + r.val % 4096) * 13312 + n.val = r.val * 13312 + n.val
    rw [Nat.div_add_mod']
  generalize (⟨r.val / 4096, _⟩ : Fin 2) = b
  generalize (⟨r.val % 4096, _⟩ : Fin 4096) = s
  refine congrArg₂ (fun a b : EReal => a * b) (congrArg₂ (fun a b : EReal => a * b) (congrArg₂ (fun a b : EReal => a + b) ?_ ?_) (gRow x2 b s n)) ?_
  · refine (dotR _ _ b s n).trans (Finset.sum_congr rfl fun k _ => ?_)
    exact congrArg₂ (fun a b : EReal => a * b) ((xLo x0 _ b s k).trans (congrArg (fun z : EReal => _ * z) (v7_apply x1 b s (grp k))))
      ((wLo x3 _ k n).trans (congrArg (fun z : EReal => _ * z) (v9_apply x4 (grp k) n)))
  · refine (dotR _ _ b s n).trans (Finset.sum_congr rfl fun k _ => ?_)
    exact congrArg₂ (fun a b : EReal => a * b) ((xHi x0 _ b s k).trans (congrArg (fun z : EReal => _ * z) (v7_apply x1 b s (grp k))))
      ((wScale _ _ k n).trans (congrArg₂ (fun a z : EReal => a * z) rfl (v9_apply x4 (grp k) n)))
  · show x5 _ = x5 _
    refine congrArg x5 (funext fun a => ?_)
    match a with
    | ⟨0, _⟩ => rfl

/-- What the reference's body leaves, at one position. -/
theorem out_apply (x0 : Vec Ideal S2x4096x8192 .i8) (x1 : Vec Ideal S2x4096x1024 .fp8e4m3) (x2 : Vec Ideal S4 .f32) (x3 : Vec Ideal S8192x13312 .i8)
    (x4 : Vec Ideal S1024x13312 .fp8e4m3) (x5 : Vec Ideal S1 .f32) (r : Fin 8192) (n : Fin 13312) :
    out0_6 (F := Ideal) x0 x1 x2 x3 x4 x5 (ValueIdx.ix2 r n)
      = refOut x0 x1 x2 x3 x4 x5 ⟨r.val / 4096, by have := r.isLt; omega⟩ ⟨r.val % 4096, Nat.mod_lt _ (by decide)⟩ n := by
  have hz1 : (![0] : Fin 1 → ℕ) = fun _ => 0 := funext fun a => by fin_cases a <;> rfl
  have hz2 : (![0, 0] : Fin 2 → ℕ) = fun _ => 0 := funext fun a => by fin_cases a <;> rfl
  have hz3 : (![0, 0, 0] : Fin 3 → ℕ) = fun _ => 0 := funext fun a => by fin_cases a <;> rfl
  unfold out0_6 k0_pay41 k0_pay40 k0_pay39 k0_pay38
  rw [View.canon_unit_zero hz2]
  rw [show View.ld x0 r0_0 = x0 from View.ld_unit_zero hz3 _ x0, show View.ld x1 r0_2 = x1 from View.ld_unit_zero hz3 _ x1,
    show View.ld x2 r0_4 = x2 from View.ld_unit_zero hz1 _ x2, show View.ld x3 r0_1 = x3 from View.ld_unit_zero hz2 _ x3,
    show View.ld x4 r0_3 = x4 from View.ld_unit_zero hz2 _ x4, show View.ld x5 r0_5 = x5 from View.ld_unit_zero hz1 _ x5]
  exact pay1_apply x0 x1 x2 x3 x4 x5 r n

end Cert.ReferenceIdeal.Hand
end
-- ==== Proof.RRun.lean ====
module

public import proofs.«01_k».proof.Proof.RVal
public import Idealize.ShloMosaic.Lib.Pipeline.Value

/-!
The reference's run: where it ends and what its result array holds.
-/

@[expose] public section

set_option maxRecDepth 16384

noncomputable section

namespace Cert.ReferenceIdeal.Hand

open Cert.ReferenceIdeal Cert.ReferenceIdeal.Gen
open Idealize.ShloMosaic Idealize.ShloMosaic.TcCoe
open Idealize.ShloMosaic.Pipeline (Dat)

variable (m : (ℓ : Loc nD τ sig) → Buf (Elt Ideal) ℓ) (ρ : Dev nD → PrngReg)

/-- The batch a row of the result belongs to. -/
def bOf (r : Fin 8192) : Fin 2 := ⟨r.val / 4096, by have := r.isLt; omega⟩

/-- The row within its batch. -/
def sOf (r : Fin 8192) : Fin 4096 := ⟨r.val % 4096, Nat.mod_lt _ (by decide)⟩

/-- The reference's result. -/
def refRes (x0 : Vec Ideal S2x4096x8192 .i8) (x1 : Vec Ideal S2x4096x1024 .fp8e4m3) (x2 : Vec Ideal S4 .f32) (x3 : Vec Ideal S8192x13312 .i8)
    (x4 : Vec Ideal S1024x13312 .fp8e4m3) (x5 : Vec Ideal S1 .f32) : Vec Ideal S8192x13312 .bf16 :=
  fun j => refOut x0 x1 x2 x3 x4 x5 (bOf (j 0)) (sOf (j 0)) (j 1)

theorem iblk_0 (c : Dev nD) (t : Fin cfg0.N) : iblk m c 0 t = m ((c : Thread nD τ).loc main_arg0) := by
  funext j
  unfold iblk
  rw [View.read_apply]
  show m ((c : Thread nD τ).loc main_arg0) _ = m ((c : Thread nD τ).loc main_arg0) _
  exact congrArg (m ((c : Thread nD τ).loc main_arg0)) (funext fun a => Fin.ext (by
    match a with
    | ⟨0, _⟩ => show 0 * 2 + 1 * (j 0).val = (j 0).val; omega
    | ⟨1, _⟩ => show 0 * 4096 + 1 * (j 1).val = (j 1).val; omega
    | ⟨2, _⟩ => show 0 * 8192 + 1 * (j 2).val = (j 2).val; omega))

theorem iblk_1 (c : Dev nD) (t : Fin cfg0.N) : iblk m c 1 t = m ((c : Thread nD τ).loc main_arg1) := by
  funext j
  unfold iblk
  rw [View.read_apply]
  show m ((c : Thread nD τ).loc main_arg1) _ = m ((c : Thread nD τ).loc main_arg1) _
  exact congrArg (m ((c : Thread nD τ).loc main_arg1)) (funext fun a => Fin.ext (by
    match a with
    | ⟨0, _⟩ => show 0 * 2 + 1 * (j 0).val = (j 0).val; omega
    | ⟨1, _⟩ => show 0 * 4096 + 1 * (j 1).val = (j 1).val; omega
    | ⟨2, _⟩ => show 0 * 1024 + 1 * (j 2).val = (j 2).val; omega))

theorem iblk_2 (c : Dev nD) (t : Fin cfg0.N) : iblk m c 2 t = m ((c : Thread nD τ).loc main_arg2) := by
  funext j
  unfold iblk
  rw [View.read_apply]
  show m ((c : Thread nD τ).loc main_arg2) _ = m ((c : Thread nD τ).loc main_arg2) _
  exact congrArg (m ((c : Thread nD τ).loc main_arg2)) (funext fun a => Fin.ext (by
    match a with
    | ⟨0, _⟩ => show 0 * 4 + 1 * (j 0).val = (j 0).val; omega))

theorem iblk_3 (c : Dev nD) (t : Fin cfg0.N) : iblk m c 3 t = m ((c : Thread nD τ).loc main_arg3) := by
  funext j
  unfold iblk
  rw [View.read_apply]
  show m ((c : Thread nD τ).loc main_arg3) _ = m ((c : Thread nD τ).loc main_arg3) _
  exact congrArg (m ((c : Thread nD τ).loc main_arg3)) (funext fun a => Fin.ext (by
    match a with
    | ⟨0, _⟩ => show 0 * 8192 + 1 * (j 0).val = (j 0).val; omega
    | ⟨1, _⟩ => show 0 * 13312 + 1 * (j 1).val = (j 1).val; omega))

theorem iblk_4 (c : Dev nD) (t : Fin cfg0.N) : iblk m c 4 t = m ((c : Thread nD τ).loc main_arg4) := by
  funext j
  unfold iblk
  rw [View.read_apply]
  show m ((c : Thread nD τ).loc main_arg4) _ = m ((c : Thread nD τ).loc main_arg4) _
  exact congrArg (m ((c : Thread nD τ).loc main_arg4)) (funext fun a => Fin.ext (by
    match a with
    | ⟨0, _⟩ => show 0 * 1024 + 1 * (j 0).val = (j 0).val; omega
    | ⟨1, _⟩ => show 0 * 13312 + 1 * (j 1).val = (j 1).val; omega))

theorem iblk_5 (c : Dev nD) (t : Fin cfg0.N) : iblk m c 5 t = m ((c : Thread nD τ).loc main_arg5) := by
  funext j
  unfold iblk
  rw [View.read_apply]
  show m ((c : Thread nD τ).loc main_arg5) _ = m ((c : Thread nD τ).loc main_arg5) _
  exact congrArg (m ((c : Thread nD τ).loc main_arg5)) (funext fun a => Fin.ext (by
    match a with
    | ⟨0, _⟩ => show 0 * 1 + 1 * (j 0).val = (j 0).val; omega))

/-- The reference's result from a memory. -/
def resOf (c : Dev nD) : Buf (Elt Ideal) ((c : Thread nD τ).loc main_v0) :=
  refRes (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flushed_eq (c : Dev nD) (t : Fin cfg0.N) (hf : (cfg0.win 6).flush t = true) :
    (dats m 0 c).flushed 6 t = ((cfg0.win 6).blk t).view.read (Elt Ideal) (resOf m c) := by
  show (cfg0.win 6).cut (grid0.coords t) ((dats m 0 c).after 6 t) = _
  rw [after0_6, iblk_0, iblk_1, iblk_2, iblk_3, iblk_4, iblk_5]
  funext j
  rw [View.read_apply]
  show out0_6 (F := Ideal) _ _ _ _ _ _ _ = resOf m c _
  refine ((congrArg _ (ValueIdx.eq_ix2 (n0 := 8192) (n1 := 13312) _)).trans (out_apply _ _ _ _ _ _ _ _)).trans ?_
  refine congrArg (resOf m c) (a₁ := ValueIdx.ix2 (n0 := 8192) (n1 := 13312) (j 0) (j 1)) (funext fun a => Fin.ext ?_)
  match a with
  | ⟨0, _⟩ => show (j 0).val = 0 * 8192 + 1 * (j 0).val; omega
  | ⟨1, _⟩ => show (j 1).val = 0 * 13312 + 1 * (j 1).val; omega

theorem final (c : Dev nD) : (dats m 0 c).arrAt 6 cfg0.N = resOf m c :=
  (dats m 0 c).arrAt_eq_of_cover 6 (resOf m c) (flushed_eq m c) fun i => by
      have hN : 0 < cfg0.N := by decide
      refine ⟨⟨0, hN⟩, flush0_6 _, ?_⟩
      show i ∈ ((View.whole main_v0).slice (win0_6.rect (⟨0, hN⟩ : Fin cfg0.N))).set
      rw [View.set_slice_whole, Rect.mem_set_unit]
      intro a
      have h0 : (i 0 : Nat) < 8192 := (i 0).isLt
      have h1 : (i 1 : Nat) < 13312 := (i 1).isLt
      match a with
      | ⟨0, _⟩ => show 0 * 8192 ≤ (i 0 : Nat) ∧ (i 0 : Nat) < 0 * 8192 + 8192; omega
      | ⟨1, _⟩ => show 0 * 13312 ≤ (i 1 : Nat) ∧ (i 1 : Nat) < 0 * 13312 + 13312; omega

/-- The run: the result at its formula, the arguments as launched. -/
theorem run : θ_run defs (onTc (τ := τ) (main (F := Ideal))) ⟨m, fun _ => 0, ρ⟩ (fun r => ∀ c : Dev nD,
      r.2.mem ((c.tc : Thread nD τ).loc main_v0) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.ReferenceIdeal.Hand
end
-- ==== Proof.KVal.lean ====
module

public import proofs.«01_k».proof.Proof.VFrame
public import proofs.«01_k».proof.Proof.RRun
public import Idealize.ShloMosaic.Lib.Pointwise.Tactic

/-!
The kernel's result, element by element.
-/

@[expose] public section

set_option maxRecDepth 16384

noncomputable section

namespace Cert.KernelIdeal.Val

open Cert.KernelIdeal Cert.KernelIdeal.Gen
open Cert.KernelIdeal.Hand (cond1 XD WD)
open Cert.ReferenceIdeal.Hand (bOf sOf segOf grp refTerm refOut refRes)
open Idealize.ShloMosaic Idealize.ShloMosaic.TcCoe
open Idealize.ShloMosaic.Pipeline (Dat)

variable (m : (ℓ : Loc nD τ sig) → Buf (Elt Ideal) ℓ) (ρ : Dev nD → PrngReg)

/-! ## One point's payload at an index -/

theorem dotK (A C : FVec Ideal S1024x1024 .bf16) (r n : Fin 1024) :
    matmul dot_S1024x1024_S1024x1024_S1024x1024_1_0_0_1_n_n none A C (constant S1024x1024 .f32 0x00000000#32) (ValueIdx.ix2 r n)
      = ∑ k : Fin 1024, A (ValueIdx.ix2 r k) * C (ValueIdx.ix2 k n) := by
  pointwise
  simp only [ix2_eq_valueIdx]

theorem half_apply0 (Z : Vec Ideal S2x1024x1024 .bf16) (r k : Fin 1024) :
    shapeCast S1024x1024 (halfOf Z ![0, 0, 0] inb_S2x1024x1024_S1x1024x1024_0_0_0) shapeCasts_S1x1024x1024_S1024x1024 (ValueIdx.ix2 r k)
      = Z (ValueIdx.ix3 0 r k) := by
  refine (shapeCast_apply _ _ _ (ValueIdx.ix3 (0 : Fin 1) r k) ?_).trans ?_
  · rw [Shape.rowMajor_val_three, Shape.rowMajor_val_two]
    show (0 * 1024 + r.val) * 1024 + k.val = r.val * 1024 + k.val
    omega
  · show Z _ = Z _
    refine congrArg Z (funext fun a => Fin.ext ?_)
    match a with
    | ⟨0, _⟩ => rfl
    | ⟨1, _⟩ => show 0 + 1 * r.val = r.val; omega
    | ⟨2, _⟩ => show 0 + 1 * k.val = k.val; omega

theorem half_apply1 (Z : Vec Ideal S2x1024x1024 .bf16) (r k : Fin 1024) :
    shapeCast S1024x1024 (halfOf Z ![1, 0, 0] inb_S2x1024x1024_S1x1024x1024_1_0_0) shapeCasts_S1x1024x1024_S1024x1024 (ValueIdx.ix2 r k)
      = Z (ValueIdx.ix3 1 r k) := by
  refine (shapeCast_apply _ _ _ (ValueIdx.ix3 (0 : Fin 1) r k) ?_).trans ?_
  · rw [Shape.rowMajor_val_three, Shape.rowMajor_val_two]
    show (0 * 1024 + r.val) * 1024 + k.val = r.val * 1024 + k.val
    omega
  · show Z _ = Z _
    refine congrArg Z (funext fun a => Fin.ext ?_)
    match a with
    | ⟨0, _⟩ => rfl
    | ⟨1, _⟩ => show 0 + 1 * r.val = r.val; omega
    | ⟨2, _⟩ => show 0 + 1 * k.val = k.val; omega

theorem pay303_eq (a : FVec Ideal S1024x1024 .f32) (X W : FVec Ideal S1x1024x1024 .bf16) :
    k0_pay303 (F := Ideal) a X W = addf a (matmul dot_S1024x1024_S1024x1024_S1024x1024_1_0_0_1_n_n none
      (shapeCast S1024x1024 X shapeCasts_S1x1024x1024_S1024x1024) (shapeCast S1024x1024 W shapeCasts_S1x1024x1024_S1024x1024)
      (constant S1024x1024 .f32 0x00000000#32)) := by
  unfold k0_pay303
  exact shapeCast_self _ _

theorem pay1_eq (a : FVec Ideal S1024x1024 .f32) (X W : FVec Ideal S1x1024x1024 .bf16) :
    k0_pay1 (F := Ideal) a X W = addf a (matmul dot_S1024x1024_S1024x1024_S1024x1024_1_0_0_1_n_n none
      (shapeCast S1024x1024 X shapeCasts_S1x1024x1024_S1024x1024) (shapeCast S1024x1024 W shapeCasts_S1x1024x1024_S1024x1024)
      (constant S1024x1024 .f32 0x00000000#32)) := by
  unfold k0_pay1
  exact shapeCast_self _ _

theorem stepV_apply (a : Vec Ideal S1024x1024 .f32) (x5 : Vec Ideal S1024x1024 .i8) (x6 : Vec Ideal S1024x128 .fp8e4m3)
    (x7 : Vec Ideal S1024x1024 .i8) (x8 : Vec Ideal S128x1024 .fp8e4m3) (r n : Fin 1024) :
    stepV a x5 x6 x7 x8 (ValueIdx.ix2 r n)
      = (a (ValueIdx.ix2 r n) + ∑ k : Fin 1024, XD x5 x6 (ValueIdx.ix3 0 r k) * WD x7 x8 (ValueIdx.ix3 0 k n))
        + ∑ k : Fin 1024, XD x5 x6 (ValueIdx.ix3 1 r k) * WD x7 x8 (ValueIdx.ix3 1 k n) := by
  unfold stepV
  rw [pay1_eq, pay303_eq]
  refine congrArg₂ (fun a b : EReal => a + b) (congrArg (fun z : EReal => a (ValueIdx.ix2 r n) + z) ?_) ?_
  · exact (dotK _ _ r n).trans (Finset.sum_congr rfl fun k _ => congrArg₂ (fun a b : EReal => a * b) (half_apply0 _ r k) (half_apply0 _ k n))
  · exact (dotK _ _ r n).trans (Finset.sum_congr rfl fun k _ => congrArg₂ (fun a b : EReal => a * b) (half_apply1 _ r k) (half_apply1 _ k n))

/-! ## The blocks -/

theorem V_main_v0 (c : Dev nD) : V m c main_v0 = shapeCast S8192x8192 (m ((c : Thread nD τ).loc main_arg0)) shapeCasts_S2x4096x8192_S8192x8192 := by
  unfold V hostOps0
  after_results
  rfl

theorem V_main_v1 (c : Dev nD) : V m c main_v1 = shapeCast S8192x1024 (m ((c : Thread nD τ).loc main_arg1)) shapeCasts_S2x4096x1024_S8192x1024 := by
  unfold V hostOps0
  after_results
  rfl

theorem index2 : ∀ t : Fin grid0.N, win0_2.index t 0 = t.val / 104 ∧ win0_2.index t 1 = t.val % 8 := by decide +kernel
theorem index3 : ∀ t : Fin grid0.N, win0_3.index t 0 = t.val / 104 ∧ win0_3.index t 1 = t.val % 8 := by decide +kernel
theorem index4 : ∀ t : Fin grid0.N, win0_4.index t 0 = t.val % 8 ∧ win0_4.index t 1 = t.val / 8 % 13 := by decide +kernel
theorem index5 : ∀ t : Fin grid0.N, win0_5.index t 0 = t.val % 8 ∧ win0_5.index t 1 = t.val / 8 % 13 := by decide +kernel
theorem index6 : ∀ t : Fin grid0.N, win0_6.index t 0 = t.val / 104 ∧ win0_6.index t 1 = t.val / 8 % 13 := by decide +kernel
theorem seg_off : ∀ t : Fin grid0.N, k0_off126 (grid0.coords t) 0 = t.val / 104 % 4 := by decide +kernel

theorem blk_0 (c : Dev nD) (t : Fin cfg0.N) : iblk m c 0 t = m ((c : Thread nD τ).loc main_arg2) := by
  funext j
  unfold iblk
  rw [View.read_apply]
  show V m c main_arg2 _ = _
  rw [V_main_arg2]
  exact congrArg (m ((c : Thread nD τ).loc main_arg2)) (funext fun a => Fin.ext (by
    match a with
    | ⟨0, _⟩ => show 0 * 4 + 1 * (j 0).val = (j 0).val; omega))

theorem blk_1 (c : Dev nD) (t : Fin cfg0.N) : iblk m c 1 t = m ((c : Thread nD τ).loc main_arg5) := by
  funext j
  unfold iblk
  rw [View.read_apply]
  show V m c main_arg5 _ = _
  rw [V_main_arg5]
  exact congrArg (m ((c : Thread nD τ).loc main_arg5)) (funext fun a => Fin.ext (by
    match a with
    | ⟨0, _⟩ => show 0 * 1 + 1 * (j 0).val = (j 0).val; omega))

theorem blk_2 (c : Dev nD) (t : Fin cfg0.N) (r k : Fin 1024) (R : Fin 8192) (K : Fin 8192)
    (hR : R.val = t.val / 104 * 1024 + r.val) (hK : K.val = t.val % 8 * 1024 + k.val) :
    (iblk m c 2 t : Vec Ideal S1024x1024 .i8) (ValueIdx.ix2 r k) = m ((c : Thread nD τ).loc main_arg0) (ValueIdx.ix3 (bOf R) (sOf R) K) := by
  unfold iblk
  rw [View.read_apply]
  show V m c main_v0 _ = _
  rw [V_main_v0]
  refine shapeCast_apply _ _ _ _ ?_
  show (S2x4096x8192.rowMajor _).val = (S8192x8192.rowMajor _).val
  rw [Shape.rowMajor_val_three, Shape.rowMajor_val_two]
  show (R.val / 4096 * 4096 + R.val % 4096) * 8192 + K.val = (win0_2.index t 0 * 1024 + 1 * r.val) * 8192 + (win0_2.index t 1 * 1024 + 1 * k.val)
  rw [(index2 t).1, (index2 t).2]
  omega

theorem blk_3 (c : Dev nD) (t : Fin cfg0.N) (r : Fin 1024) (q : Fin 128) (R : Fin 8192) (Q : Fin 1024)
    (hR : R.val = t.val / 104 * 1024 + r.val) (hQ : Q.val = t.val % 8 * 128 + q.val) :
    (iblk m c 3 t : Vec Ideal S1024x128 .fp8e4m3) (ValueIdx.ix2 r q) = m ((c : Thread nD τ).loc main_arg1) (ValueIdx.ix3 (bOf R) (sOf R) Q) := by
  unfold iblk
  rw [View.read_apply]
  show V m c main_v1 _ = _
  rw [V_main_v1]
  refine shapeCast_apply _ _ _ _ ?_
  show (S2x4096x1024.rowMajor _).val = (S8192x1024.rowMajor _).val
  rw [Shape.rowMajor_val_three, Shape.rowMajor_val_two]
  show (R.val / 4096 * 4096 + R.val % 4096) * 1024 + Q.val = (win0_3.index t 0 * 1024 + 1 * r.val) * 1024 + (win0_3.index t 1 * 128 + 1 * q.val)
  rw [(index3 t).1, (index3 t).2]
  omega

theorem blk_4 (c : Dev nD) (t : Fin cfg0.N) (k n : Fin 1024) (K : Fin 8192) (N : Fin 13312)
    (hK : K.val = t.val % 8 * 1024 + k.val) (hN : N.val = t.val / 8 % 13 * 1024 + n.val) :
    (iblk m c 4 t : Vec Ideal S1024x1024 .i8) (ValueIdx.ix2 k n) = m ((c : Thread nD τ).loc main_arg3) (ValueIdx.ix2 K N) := by
  unfold iblk
  rw [View.read_apply]
  show V m c main_arg3 _ = _
  rw [V_main_arg3]
  exact congrArg (m ((c : Thread nD τ).loc main_arg3)) (funext fun a => Fin.ext (by
    match a with
    | ⟨0, _⟩ => show win0_4.index t 0 * 1024 + 1 * k.val = K.val; rw [(index4 t).1]; omega
    | ⟨1, _⟩ => show win0_4.index t 1 * 1024 + 1 * n.val = N.val; rw [(index4 t).2]; omega))

theorem blk_5 (c : Dev nD) (t : Fin cfg0.N) (q : Fin 128) (n : Fin 1024) (Q : Fin 1024) (N : Fin 13312)
    (hQ : Q.val = t.val % 8 * 128 + q.val) (hN : N.val = t.val / 8 % 13 * 1024 + n.val) :
    (iblk m c 5 t : Vec Ideal S128x1024 .fp8e4m3) (ValueIdx.ix2 q n) = m ((c : Thread nD τ).loc main_arg4) (ValueIdx.ix2 Q N) := by
  unfold iblk
  rw [View.read_apply]
  show V m c main_arg4 _ = _
  rw [V_main_arg4]
  exact congrArg (m ((c : Thread nD τ).loc main_arg4)) (funext fun a => Fin.ext (by
    match a with
    | ⟨0, _⟩ => show win0_5.index t 0 * 128 + 1 * q.val = Q.val; rw [(index5 t).1]; omega
    | ⟨1, _⟩ => show win0_5.index t 1 * 1024 + 1 * n.val = N.val; rw [(index5 t).2]; omega))

/-! ## The accumulator at an index -/

/-- One product of the contraction, over the whole arrays. -/
def kTerm (c : Dev nD) (R : Fin 8192) (N : Fin 13312) (u : ℕ) (K : Fin 8192) : EReal :=
  refTerm (m ((c : Thread nD τ).loc main_arg0)) (m ((c : Thread nD τ).loc main_arg1)) (m ((c : Thread nD τ).loc main_arg3))
    (m ((c : Thread nD τ).loc main_arg4)) (bOf R) (sOf R) N u K

/-- A position of the contraction from its chunk and its place in the chunk. -/
def posK (q : ℕ) (k : Fin 1024) : Fin 8192 := ⟨(q * 1024 + k.val) % 8192, Nat.mod_lt _ (by decide)⟩

theorem prod_eq (c : Dev nD) (t : Fin cfg0.N) (u : Fin 2) (r n k : Fin 1024) (R : Fin 8192) (N : Fin 13312)
    (hR : R.val = t.val / 104 * 1024 + r.val) (hN : N.val = t.val / 8 % 13 * 1024 + n.val) :
    XD (iblk m c 2 t) (iblk m c 3 t) (ValueIdx.ix3 u r k) * WD (iblk m c 4 t) (iblk m c 5 t) (ValueIdx.ix3 u k n)
      = kTerm m c R N u.val (posK (t.val % 8) k) := by
  have hk := k.isLt
  have hK : (posK (t.val % 8) k).val = t.val % 8 * 1024 + k.val := by
    show (t.val % 8 * 1024 + k.val) % 8192 = _
    omega
  have hQ : (grp (posK (t.val % 8) k)).val = t.val % 8 * 128 + k.val / 8 := by
    show (posK (t.val % 8) k).val / 8 = _
    rw [hK]; omega
  unfold kTerm refTerm
  rw [Cert.Val.term_eq]
  refine congrArg₂ (fun a b : EReal => a * b) ?_ ?_
  · exact congrArg₂ (fun a b : EReal => a * b) (congrArg (Cert.KernelIdeal.Hand.halfVal u.val) (blk_2 m c t r k R _ hR hK))
      (congrArg (fun z : EReal => z * Ideal.ofBits .bf16 0x4580#16) (blk_3 m c t r ⟨k.val / 8, by omega⟩ R _ hR hQ))
  · exact congrArg₂ (fun a b : EReal => a * b) (congrArg (Cert.KernelIdeal.Hand.halfVal u.val) (blk_4 m c t k n _ N hK hN))
      (blk_5 m c t ⟨k.val / 8, by omega⟩ n _ N hQ hN)

/-- What one chunk of the contraction adds. -/
def chunk (c : Dev nD) (R : Fin 8192) (N : Fin 13312) (q : ℕ) : EReal :=
  ∑ k : Fin 1024, kTerm m c R N 0 (posK q k) + ∑ k : Fin 1024, kTerm m c R N 1 (posK q k)

theorem step_chunk (c : Dev nD) (t : Fin cfg0.N) (a : Vec Ideal S1024x1024 .f32) (r n : Fin 1024) (R : Fin 8192) (N : Fin 13312)
    (hR : R.val = t.val / 104 * 1024 + r.val) (hN : N.val = t.val / 8 % 13 * 1024 + n.val) :
    stepV a (iblk m c 2 t) (iblk m c 3 t) (iblk m c 4 t) (iblk m c 5 t) (ValueIdx.ix2 r n)
      = a (ValueIdx.ix2 r n) + chunk m c R N (t.val % 8) := by
  refine (stepV_apply a _ _ _ _ r n).trans ?_
  unfold chunk
  rw [← add_assoc]
  refine congrArg₂ (fun a b : EReal => a + b) (congrArg (fun z : EReal => a (ValueIdx.ix2 r n) + z) ?_) ?_
  · exact Finset.sum_congr rfl fun k _ => prod_eq m c t 0 r n k R N hR hN
  · exact Finset.sum_congr rfl fun k _ => prod_eq m c t 1 r n k R N hR hN

theorem acc_chunks (c : Dev nD) (r n : Fin 1024) (R : Fin 8192) (N : Fin 13312) (p : ℕ) (hp : p < 104)
    (hR : R.val = p / 13 * 1024 + r.val) (hN : N.val = p % 13 * 1024 + n.val) :
    ∀ q, q < 8 → accA m c (p * 8 + q) (ValueIdx.ix2 r n) = ∑ i ∈ Finset.range (q + 1), chunk m c R N i := by
  have hNN : cfg0.N = 832 := N_0
  intro q
  induction q with
  | zero =>
    intro _
    have ht : p * 8 + 0 < cfg0.N := by omega
    have h := accA_clear m c ⟨p * 8 + 0, ht⟩ (by show (p * 8 + 0) % 8 = 0; omega)
    refine (congrFun h _).trans ?_
    refine (step_chunk m c ⟨p * 8 + 0, ht⟩ _ r n R N (by show R.val = (p * 8 + 0) / 104 * 1024 + r.val; omega)
      (by show N.val = (p * 8 + 0) / 8 % 13 * 1024 + n.val; omega)).trans ?_
    rw [Finset.sum_range_one]
    rw [show ((⟨p * 8 + 0, ht⟩ : Fin cfg0.N).val % 8) = 0 from by show (p * 8 + 0) % 8 = 0; omega]
    refine (congrArg (fun z : EReal => z + chunk m c R N 0) ?_).trans (zero_add _)
    show Ideal.ofBits .f32 0x00000000#32 = 0
    exact Ideal.ofBits_zero_f32
  | succ q ih =>
    intro hq
    have ht : p * 8 + (q + 1) < cfg0.N := by omega
    have h := accA_step m c ⟨p * 8 + (q + 1), ht⟩ (by show (p * 8 + (q + 1)) % 8 ≠ 0; omega)
    refine (congrFun h _).trans ?_
    refine (step_chunk m c ⟨p * 8 + (q + 1), ht⟩ _ r n R N (by show R.val = (p * 8 + (q + 1)) / 104 * 1024 + r.val; omega)
      (by show N.val = (p * 8 + (q + 1)) / 8 % 13 * 1024 + n.val; omega)).trans ?_
    rw [show ((⟨p * 8 + (q + 1), ht⟩ : Fin cfg0.N).val % 8) = q + 1 from by show (p * 8 + (q + 1)) % 8 = q + 1; omega]
    rw [Finset.sum_range_succ, ← ih (by omega)]
    rfl

/-- The contraction's positions, chunk by chunk. -/
theorem sum_chunks (f : Fin 8192 → EReal) : ∑ K : Fin 8192, f K = ∑ q ∈ Finset.range 8, ∑ k : Fin 1024, f (posK q k) := by
  rw [Finset.sum_range, ← Fintype.sum_prod_type' (fun (q : Fin 8) (k : Fin 1024) => f (posK q.val k))]
  symm
  refine Fintype.sum_equiv (finProdFinEquiv (m := 8) (n := 1024)) _ f fun x => congrArg f (Fin.ext ?_)
  have h0 := x.1.isLt
  have h1 := x.2.isLt
  show (x.1.val * 1024 + x.2.val) % 8192 = x.2.val + 1024 * x.1.val
  omega

theorem acc_final (c : Dev nD) (r n : Fin 1024) (R : Fin 8192) (N : Fin 13312) (p : ℕ) (hp : p < 104)
    (hR : R.val = p / 13 * 1024 + r.val) (hN : N.val = p % 13 * 1024 + n.val) :
    accA m c (p * 8 + 7) (ValueIdx.ix2 r n) = ∑ K : Fin 8192, kTerm m c R N 0 K + ∑ K : Fin 8192, kTerm m c R N 1 K := by
  rw [acc_chunks m c r n R N p hp hR hN 7 (by omega), sum_chunks, sum_chunks, ← Finset.sum_add_distrib]
  rfl

/-! ## The result -/

/-- The kernel's result from a memory. -/
def resOf (c : Dev nD) : Buf (Elt Ideal) ((c : Thread nD τ).loc main_v2) :=
  refRes (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem outV_apply (i : grid0.Coords) (h2 : k0_cond2 i = 1#1) (x3 : Vec Ideal S4 .f32) (x4 : Vec Ideal S1 .f32) (a : Vec Ideal S1024x1024 .f32)
    (r n : Fin 1024) (s : Fin 4) (hs : k0_off126 i 0 = s.val) :
    outV i h2 x3 x4 a (ValueIdx.ix2 r n) = (a (ValueIdx.ix2 r n) * x3 (ValueIdx.ix1 s)) * x4 (ValueIdx.ix1 0) := by
  unfold outV k0_pay2
  refine congrArg₂ (fun a b : EReal => a * b) (congrArg (fun z : EReal => a (ValueIdx.ix2 r n) * z) ?_) ?_
  · refine congrArg x3 (funext fun b => Fin.ext ?_)
    match b with
    | ⟨0, _⟩ => show k0_off126 i 0 + 1 * 0 = s.val; omega
  · refine congrArg x4 (funext fun b => Fin.ext ?_)
    match b with
    | ⟨0, _⟩ => rfl

theorem outAt_apply (c : Dev nD) (t : Fin cfg0.N) (h7 : t.val % 8 = 7) (r n : Fin 1024) (R : Fin 8192) (N : Fin 13312)
    (hR : R.val = t.val / 104 * 1024 + r.val) (hN : N.val = t.val / 8 % 13 * 1024 + n.val) :
    outAt m c t (ValueIdx.ix2 r n) = resOf m c (ValueIdx.ix2 R N) := by
  have hNN : cfg0.N = 832 := N_0
  have ht := t.isLt
  have hr := r.isLt
  have hO : outAt m c t = outV (grid0.coords t) ((cond2_iff t).mpr h7) (iblk m c 0 t) (iblk m c 1 t) (accA m c t.val) := dif_pos ((cond2_iff t).mpr h7)
  rw [hO]
  refine (outV_apply _ _ _ _ _ r n (segOf (sOf R)) ?_).trans ?_
  · refine (seg_off t).trans ?_
    show _ = R.val % 4096 / 1024
    omega
  rw [blk_0, blk_1]
  have hacc := acc_final m c r n R N (t.val / 8) (by omega) (by omega) hN
  rw [show t.val / 8 * 8 + 7 = t.val from by omega] at hacc
  rw [hacc]
  rfl

theorem flushed_eq (c : Dev nD) (t : Fin cfg0.N) (hf : (cfg0.win 6).flush t = true) :
    (datsV m 0 c).flushed 6 t = ((cfg0.win 6).blk t).view.read (Elt Ideal) (resOf m c) := by
  have hNN : cfg0.N = 832 := N_0
  have ht := t.isLt
  have h7 : t.val % 8 = 7 := (flush0_6 t).mp hf
  show (cfg0.win 6).cut (grid0.coords t) ((datsV m 0 c).after 6 t) = _
  rw [afterV_6]
  funext j
  have hj0 : (j 0).val < 1024 := (j 0).isLt
  have hj1 : (j 1).val < 1024 := (j 1).isLt
  rw [View.read_apply]
  show outAt m c t _ = resOf m c _
  refine ((congrArg _ (ValueIdx.eq_ix2 (n0 := 1024) (n1 := 1024) _)).trans
    (outAt_apply m c t h7 ⟨(j 0).val, hj0⟩ ⟨(j 1).val, hj1⟩ ⟨t.val / 104 * 1024 + (j 0).val, by omega⟩ ⟨t.val / 8 % 13 * 1024 + (j 1).val, by omega⟩ rfl rfl)).trans ?_
  refine congrArg (resOf m c) (funext fun a => Fin.ext ?_)
  match a with
  | ⟨0, _⟩ => show t.val / 104 * 1024 + (j 0).val = win0_6.index t 0 * 1024 + 1 * (j 0).val; rw [(index6 t).1]; omega
  | ⟨1, _⟩ => show t.val / 8 % 13 * 1024 + (j 1).val = win0_6.index t 1 * 1024 + 1 * (j 1).val; rw [(index6 t).2]; omega

theorem final (c : Dev nD) : (datsV m 0 c).arrAt 6 cfg0.N = resOf m c :=
  (datsV m 0 c).arrAt_eq_of_cover 6 (resOf m c) (flushed_eq m c) fun i => by
    have hNN : cfg0.N = 832 := N_0
    have h0 : (i 0 : Nat) < 8192 := (i 0).isLt
    have h1 : (i 1 : Nat) < 13312 := (i 1).isLt
    have ht : ((i 0 : Nat) / 1024 * 13 + (i 1 : Nat) / 1024) * 8 + 7 < cfg0.N := by omega
    refine ⟨⟨((i 0 : Nat) / 1024 * 13 + (i 1 : Nat) / 1024) * 8 + 7, ht⟩, (flush0_6 _).mpr (by show (((i 0 : Nat) / 1024 * 13 + (i 1 : Nat) / 1024) * 8 + 7) % 8 = 7; omega), ?_⟩
    have hi := index6 ⟨((i 0 : Nat) / 1024 * 13 + (i 1 : Nat) / 1024) * 8 + 7, ht⟩
    generalize hT : (⟨((i 0 : Nat) / 1024 * 13 + (i 1 : Nat) / 1024) * 8 + 7, ht⟩ : Fin cfg0.N) = T at hi ⊢
    have hv : T.val = ((i 0 : Nat) / 1024 * 13 + (i 1 : Nat) / 1024) * 8 + 7 := by rw [← hT]
    show i ∈ ((View.whole main_v2).slice (win0_6.rect T)).set
    rw [View.set_slice_whole, Rect.mem_set_unit]
    intro a
    match a with
    | ⟨0, _⟩ => show win0_6.index T 0 * 1024 ≤ (i 0 : Nat) ∧ (i 0 : Nat) < win0_6.index T 0 * 1024 + 1024
                rw [hi.1, hv]; omega
    | ⟨1, _⟩ => show win0_6.index T 1 * 1024 ≤ (i 1 : Nat) ∧ (i 1 : Nat) < win0_6.index T 1 * 1024 + 1024
                rw [hi.2, hv]; omega

/-- The run: the result at its formula, the arguments as launched. -/
theorem run : θ_run defs (onTc (τ := τ) (main (F := Ideal))) ⟨m, fun _ => 0, ρ⟩ (fun r => ∀ c : Dev nD,
      r.2.mem ((c.tc : Thread nD τ).loc main_v2) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((datsV m 0 c).arrAt_in 0 rfl _).trans ((A_eqV m c 0).trans (V_main_arg2 m c))),
      ((h c).1 4).trans (((datsV m 0 c).arrAt_in 4 rfl _).trans ((A_eqV m c 4).trans (V_main_arg3 m c))),
      ((h c).1 5).trans (((datsV m 0 c).arrAt_in 5 rfl _).trans ((A_eqV m c 5).trans (V_main_arg4 m c))),
      ((h c).1 1).trans (((datsV m 0 c).arrAt_in 1 rfl _).trans ((A_eqV m c 1).trans (V_main_arg5 m c)))⟩)
    (run_mainV m ρ)

end Cert.KernelIdeal.Val
end
-- ==== Proof.Value.lean ====
module

public import proofs.«01_k».proof.Defs
public import proofs.«01_k».proof.Proof.KVal

/-!
The value claim: over the extended reals the kernel and the reference end with the same result.
-/

@[expose] public section

set_option maxRecDepth 16384

noncomputable section

namespace Cert.Hand

open Idealize.ShloMosaic Idealize.SL.Sem

theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.resOf m' c = Cert.KernelIdeal.Val.resOf m c := by
  unfold Cert.ReferenceIdeal.Hand.resOf Cert.KernelIdeal.Val.resOf
  rw [h.1, h.2.1, h.2.2.1, h.2.2.2.1, h.2.2.2.2.1, h.2.2.2.2.2]

theorem algebraic : Cert.algebraic_KernelIdeal_ReferenceIdeal (hKernelIdeal := Cert.KernelIdeal.Gen.facts) (hReferenceIdeal := Cert.ReferenceIdeal.Gen.facts) :=
  fun m g m' g' _ h => ⟨fun c => Cert.KernelIdeal.Val.resOf m c, Cert.KernelIdeal.Val.run m g,
    (θ_run _ _ _).mono (fun _ hr c => ⟨(hr c).1.trans (res_eq m m' c (h c)), (hr c).2⟩) (Cert.ReferenceIdeal.Hand.run m' g')⟩

end Cert.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KFrame
public import proofs.«01_k».proof.Proof.KIFrame
public import proofs.«01_k».proof.Proof.Preserves
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨fun m g _ => Cert.Kernel.Hand.frame m g, fun m g _ => Cert.KernelIdeal.Hand.frame m g, fun m g _ => Cert.ReferenceIdeal.Gen.frame m g, Cert.Hand.preserves, Cert.Hand.algebraic⟩⟩

end Cert.Proof

end
